-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_KernelFastCos (m : (ℓ : Loc Cert.KernelFastCos.nD Cert.KernelFastCos.τ Cert.KernelFastCos.sig) → Buf (Elt Bits) ℓ) : Prop :=
  True

def Pre_KernelFastCosIdeal (m : (ℓ : Loc Cert.KernelFastCosIdeal.nD Cert.KernelFastCosIdeal.τ Cert.KernelFastCosIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_KernelFastCos [hKernelFastCos : Cert.KernelFastCos.Facts] : Prop :=
  ∀ (m : (ℓ : Loc Cert.KernelFastCos.nD Cert.KernelFastCos.τ Cert.KernelFastCos.sig) → Buf (Elt Bits) ℓ) (g : Dev Cert.KernelFastCos.nD → PrngReg), Pre_KernelFastCos m →
    θ_run (Cert.KernelFastCos.defs (F := Bits)) (onTc (τ := Cert.KernelFastCos.τ) (Cert.KernelFastCos.main (F := Bits))) ⟨m, fun _ => 0, g⟩ (fun r => (∀ c : Dev Cert.KernelFastCos.nD,
      r.2.mem ((c.tc : Thread Cert.KernelFastCos.nD Cert.KernelFastCos.τ).loc Cert.KernelFastCos.main_arg0) = m ((c.tc : Thread Cert.KernelFastCos.nD Cert.KernelFastCos.τ).loc Cert.KernelFastCos.main_arg0)
      ∧ r.2.mem ((c.tc : Thread Cert.KernelFastCos.nD Cert.KernelFastCos.τ).loc Cert.KernelFastCos.main_arg1) = m ((c.tc : Thread Cert.KernelFastCos.nD Cert.KernelFastCos.τ).loc Cert.KernelFastCos.main_arg1)
      ∧ r.2.mem ((c.tc : Thread Cert.KernelFastCos.nD Cert.KernelFastCos.τ).loc Cert.KernelFastCos.main_arg2) = m ((c.tc : Thread Cert.KernelFastCos.nD Cert.KernelFastCos.τ).loc Cert.KernelFastCos.main_arg2)
      ∧ r.2.mem ((c.tc : Thread Cert.KernelFastCos.nD Cert.KernelFastCos.τ).loc Cert.KernelFastCos.main_arg3) = m ((c.tc : Thread Cert.KernelFastCos.nD Cert.KernelFastCos.τ).loc Cert.KernelFastCos.main_arg3)
      ∧ r.2.mem ((c.tc : Thread Cert.KernelFastCos.nD Cert.KernelFastCos.τ).loc Cert.KernelFastCos.main_arg4) = m ((c.tc : Thread Cert.KernelFastCos.nD Cert.KernelFastCos.τ).loc Cert.KernelFastCos.main_arg4)
      ∧ r.2.mem ((c.tc : Thread Cert.KernelFastCos.nD Cert.KernelFastCos.τ).loc Cert.KernelFastCos.main_arg5) = m ((c.tc : Thread Cert.KernelFastCos.nD Cert.KernelFastCos.τ).loc Cert.KernelFastCos.main_arg5)
      ∧ r.2.mem ((c.tc : Thread Cert.KernelFastCos.nD Cert.KernelFastCos.τ).loc Cert.KernelFastCos.main_arg6) = m ((c.tc : Thread Cert.KernelFastCos.nD Cert.KernelFastCos.τ).loc Cert.KernelFastCos.main_arg6)
      ∧ r.2.mem ((c.tc : Thread Cert.KernelFastCos.nD Cert.KernelFastCos.τ).loc Cert.KernelFastCos.main_arg7) = m ((c.tc : Thread Cert.KernelFastCos.nD Cert.KernelFastCos.τ).loc Cert.KernelFastCos.main_arg7)
      ∧ r.2.mem ((c.tc : Thread Cert.KernelFastCos.nD Cert.KernelFastCos.τ).loc Cert.KernelFastCos.main_arg8) = m ((c.tc : Thread Cert.KernelFastCos.nD Cert.KernelFastCos.τ).loc Cert.KernelFastCos.main_arg8)
      ∧ r.2.mem ((c.tc : Thread Cert.KernelFastCos.nD Cert.KernelFastCos.τ).loc Cert.KernelFastCos.main_arg9) = m ((c.tc : Thread Cert.KernelFastCos.nD Cert.KernelFastCos.τ).loc Cert.KernelFastCos.main_arg9)
      ∧ r.2.mem ((c.tc : Thread Cert.KernelFastCos.nD Cert.KernelFastCos.τ).loc Cert.KernelFastCos.main_arg10) = m ((c.tc : Thread Cert.KernelFastCos.nD Cert.KernelFastCos.τ).loc Cert.KernelFastCos.main_arg10)
      ∧ r.2.mem ((c.tc : Thread Cert.KernelFastCos.nD Cert.KernelFastCos.τ).loc Cert.KernelFastCos.main_arg11) = m ((c.tc : Thread Cert.KernelFastCos.nD Cert.KernelFastCos.τ).loc Cert.KernelFastCos.main_arg11))
      ∧ r.2.sem = fun _ => 0)

def quiescent_KernelFastCosIdeal [hKernelFastCosIdeal : Cert.KernelFastCosIdeal.Facts] : Prop :=
  ∀ (m : (ℓ : Loc Cert.KernelFastCosIdeal.nD Cert.KernelFastCosIdeal.τ Cert.KernelFastCosIdeal.sig) → Buf (Elt Ideal) ℓ) (g : Dev Cert.KernelFastCosIdeal.nD → PrngReg), Pre_KernelFastCosIdeal m →
    θ_run (Cert.KernelFastCosIdeal.defs (F := Ideal)) (onTc (τ := Cert.KernelFastCosIdeal.τ) (Cert.KernelFastCosIdeal.main (F := Ideal))) ⟨m, fun _ => 0, g⟩ (fun r => (∀ c : Dev Cert.KernelFastCosIdeal.nD,
      r.2.mem ((c.tc : Thread Cert.KernelFastCosIdeal.nD Cert.KernelFastCosIdeal.τ).loc Cert.KernelFastCosIdeal.main_arg0) = m ((c.tc : Thread Cert.KernelFastCosIdeal.nD Cert.KernelFastCosIdeal.τ).loc Cert.KernelFastCosIdeal.main_arg0)
      ∧ r.2.mem ((c.tc : Thread Cert.KernelFastCosIdeal.nD Cert.KernelFastCosIdeal.τ).loc Cert.KernelFastCosIdeal.main_arg1) = m ((c.tc : Thread Cert.KernelFastCosIdeal.nD Cert.KernelFastCosIdeal.τ).loc Cert.KernelFastCosIdeal.main_arg1)
      ∧ r.2.mem ((c.tc : Thread Cert.KernelFastCosIdeal.nD Cert.KernelFastCosIdeal.τ).loc Cert.KernelFastCosIdeal.main_arg2) = m ((c.tc : Thread Cert.KernelFastCosIdeal.nD Cert.KernelFastCosIdeal.τ).loc Cert.KernelFastCosIdeal.main_arg2)
      ∧ r.2.mem ((c.tc : Thread Cert.KernelFastCosIdeal.nD Cert.KernelFastCosIdeal.τ).loc Cert.KernelFastCosIdeal.main_arg3) = m ((c.tc : Thread Cert.KernelFastCosIdeal.nD Cert.KernelFastCosIdeal.τ).loc Cert.KernelFastCosIdeal.main_arg3)
      ∧ r.2.mem ((c.tc : Thread Cert.KernelFastCosIdeal.nD Cert.KernelFastCosIdeal.τ).loc Cert.KernelFastCosIdeal.main_arg4) = m ((c.tc : Thread Cert.KernelFastCosIdeal.nD Cert.KernelFastCosIdeal.τ).loc Cert.KernelFastCosIdeal.main_arg4)
      ∧ r.2.mem ((c.tc : Thread Cert.KernelFastCosIdeal.nD Cert.KernelFastCosIdeal.τ).loc Cert.KernelFastCosIdeal.main_arg5) = m ((c.tc : Thread Cert.KernelFastCosIdeal.nD Cert.KernelFastCosIdeal.τ).loc Cert.KernelFastCosIdeal.main_arg5)
      ∧ r.2.mem ((c.tc : Thread Cert.KernelFastCosIdeal.nD Cert.KernelFastCosIdeal.τ).loc Cert.KernelFastCosIdeal.main_arg6) = m ((c.tc : Thread Cert.KernelFastCosIdeal.nD Cert.KernelFastCosIdeal.τ).loc Cert.KernelFastCosIdeal.main_arg6)
      ∧ r.2.mem ((c.tc : Thread Cert.KernelFastCosIdeal.nD Cert.KernelFastCosIdeal.τ).loc Cert.KernelFastCosIdeal.main_arg7) = m ((c.tc : Thread Cert.KernelFastCosIdeal.nD Cert.KernelFastCosIdeal.τ).loc Cert.KernelFastCosIdeal.main_arg7)
      ∧ r.2.mem ((c.tc : Thread Cert.KernelFastCosIdeal.nD Cert.KernelFastCosIdeal.τ).loc Cert.KernelFastCosIdeal.main_arg8) = m ((c.tc : Thread Cert.KernelFastCosIdeal.nD Cert.KernelFastCosIdeal.τ).loc Cert.KernelFastCosIdeal.main_arg8)
      ∧ r.2.mem ((c.tc : Thread Cert.KernelFastCosIdeal.nD Cert.KernelFastCosIdeal.τ).loc Cert.KernelFastCosIdeal.main_arg9) = m ((c.tc : Thread Cert.KernelFastCosIdeal.nD Cert.KernelFastCosIdeal.τ).loc Cert.KernelFastCosIdeal.main_arg9)
      ∧ r.2.mem ((c.tc : Thread Cert.KernelFastCosIdeal.nD Cert.KernelFastCosIdeal.τ).loc Cert.KernelFastCosIdeal.main_arg10) = m ((c.tc : Thread Cert.KernelFastCosIdeal.nD Cert.KernelFastCosIdeal.τ).loc Cert.KernelFastCosIdeal.main_arg10)
      ∧ r.2.mem ((c.tc : Thread Cert.KernelFastCosIdeal.nD Cert.KernelFastCosIdeal.τ).loc Cert.KernelFastCosIdeal.main_arg11) = m ((c.tc : Thread Cert.KernelFastCosIdeal.nD Cert.KernelFastCosIdeal.τ).loc Cert.KernelFastCosIdeal.main_arg11))
      ∧ r.2.sem = fun _ => 0)

def preserves_Kernel_KernelIdeal : Prop :=
  IdealRules.named_const.Statement Cert.KernelIdeal.κ "min_norm_sq" .f32 0x0DA24260#32 ((89202981441289 / 89202980794122492566142873090593446023921664 : ℝ) : EReal)
  ∧ IdealRules.named_const.Statement Cert.KernelIdeal.κ "half_ln2" .f32 0x3EB17218#32 ((2⁻¹ * (Real.log 2) : ℝ) : EReal)
  ∧ IdealRules.named_const.Statement Cert.KernelIdeal.κ "inv_ln2" .f32 0x3FB8AA3B#32 (((Real.log 2)⁻¹ : ℝ) : EReal)

def algebraic_KernelIdeal_ReferenceIdeal_on_guards_idle_pre_inputs_finite [hKernelIdeal : Cert.KernelIdeal.Facts] [hReferenceIdeal : Cert.ReferenceIdeal.Facts] [hPre_inputs_finite : Cert.Pre_inputs_finite.Facts] [hOn_guards_idle : Cert.On_guards_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![131072, 128]⟩ : Shape).Idx, (Cert.On_guards_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.KernelIdeal.nD Cert.KernelIdeal.τ).loc Cert.KernelIdeal.main_v21) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![131072, 128]⟩ : Shape).Idx, (Cert.On_guards_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.ReferenceIdeal.nD Cert.ReferenceIdeal.τ).loc Cert.ReferenceIdeal.main_v746) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_KernelFastCos_KernelFastCosIdeal : Prop :=
  IdealRules.named_const.Statement Cert.KernelFastCosIdeal.κ "min_norm_sq" .f32 0x0DA24260#32 ((89202981441289 / 89202980794122492566142873090593446023921664 : ℝ) : EReal)
  ∧ IdealRules.named_const.Statement Cert.KernelFastCosIdeal.κ "half_ln2" .f32 0x3EB17218#32 ((2⁻¹ * (Real.log 2) : ℝ) : EReal)
  ∧ IdealRules.named_const.Statement Cert.KernelFastCosIdeal.κ "inv_ln2" .f32 0x3FB8AA3B#32 (((Real.log 2)⁻¹ : ℝ) : EReal)

def Claim : Prop :=
  ∃ (hKernel : Cert.Kernel.Facts) (hKernelIdeal : Cert.KernelIdeal.Facts) (hReferenceIdeal : Cert.ReferenceIdeal.Facts) (hKernelFastCos : Cert.KernelFastCos.Facts) (hKernelFastCosIdeal : Cert.KernelFastCosIdeal.Facts) (hPre_inputs_finite : Cert.Pre_inputs_finite.Facts) (hOn_guards_idle : Cert.On_guards_idle.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_KernelFastCos (hKernelFastCos := hKernelFastCos)
    ∧ quiescent_KernelFastCosIdeal (hKernelFastCosIdeal := hKernelFastCosIdeal)
    ∧ preserves_Kernel_KernelIdeal
    ∧ algebraic_KernelIdeal_ReferenceIdeal_on_guards_idle_pre_inputs_finite (hKernelIdeal := hKernelIdeal) (hReferenceIdeal := hReferenceIdeal) (hPre_inputs_finite := hPre_inputs_finite) (hOn_guards_idle := hOn_guards_idle)
    ∧ preserves_KernelFastCos_KernelFastCosIdeal
-- ==== On_guards_idle.lean ====
abbrev S131072x128 : Shape := ⟨2, ![131072, 128]⟩
abbrev S131072 : Shape := ⟨1, ![131072]⟩
abbrev S131072x100 : Shape := ⟨2, ![131072, 100]⟩
abbrev S128 : Shape := ⟨1, ![128]⟩
abbrev S384x256 : Shape := ⟨2, ![384, 256]⟩
abbrev S384x128 : Shape := ⟨2, ![384, 128]⟩
abbrev S3x128 : Shape := ⟨2, ![3, 128]⟩
abbrev S128x100 : Shape := ⟨2, ![128, 100]⟩
abbrev S131072x1 : Shape := ⟨2, ![131072, 1]⟩
abbrev S1x128 : Shape := ⟨2, ![1, 128]⟩
abbrev S_ : Shape := ⟨0, ![]⟩
abbrev S131072x256 : Shape := ⟨2, ![131072, 256]⟩
abbrev S128x256 : Shape := ⟨2, ![128, 256]⟩
abbrev S128x128 : Shape := ⟨2, ![128, 128]⟩
abbrev S256x128 : Shape := ⟨2, ![256, 128]⟩
abbrev S1 : Shape := ⟨1, ![1]⟩
abbrev S1x1 : Shape := ⟨2, ![1, 1]⟩

class Facts : Prop where
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  reducesTo_S131072x128_S131072_d1 : S131072x128.ReducesTo [1] S131072
  h_S_ : 0 < S_.numel
  bcast_S_S131072x1 : S_.BroadcastsInDim S131072x1 (![] : Fin 0 → Fin S131072x1.rank)
  bcast_S_S131072x128 : S_.BroadcastsInDim S131072x128 (![] : Fin 0 → Fin S131072x128.rank)
  concatenates_S131072x128_S131072x128_S131072x256_d1 : Shape.Concatenates [S131072x128, S131072x128] S131072x256 1
  slices_S384x256_S128x256_0_0 : S384x256.Slices ![0, 0] S128x256
  slices_S384x256_S128x256_128_0 : S384x256.Slices ![128, 0] S128x256
  slices_S384x256_S128x256_256_0 : S384x256.Slices ![256, 0] S128x256
  slices_S384x128_S128x128_0_0 : S384x128.Slices ![0, 0] S128x128
  slices_S384x128_S128x128_128_0 : S384x128.Slices ![128, 0] S128x128
  slices_S384x128_S128x128_256_0 : S384x128.Slices ![256, 0] S128x128
  slices_S3x128_S1x128_2_0 : S3x128.Slices ![2, 0] S1x128
  shapeCasts_S1x128_S128 : S1x128.ShapeCasts S128
  transposes_S128x128_S128x128_1_0 : S128x128.Transposes [1, 0] S128x128
  reducesTo_S131072x256_S131072_d1 : S131072x256.ReducesTo [1] S131072
  transposes_S128x256_S256x128_1_0 : S128x256.Transposes [1, 0] S256x128
  reducesTo_S128_S_d0 : S128.ReducesTo [0] S_
  bcast_S_S1 : S_.BroadcastsInDim S1 (![] : Fin 0 → Fin S1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  slices_S3x128_S1x128_0_0 : S3x128.Slices ![0, 0] S1x128
  slices_S3x128_S1x128_1_0 : S3x128.Slices ![1, 0] S1x128
  dot_S131072x128_S128x128_S131072x128_1_0_0_1_n_n_wf : DotDims.WF S131072x128 S128x128 S131072x128 [1] [0] [0] [1] [] []
  dot_S131072x256_S256x128_S131072x128_1_0_0_1_n_n_wf : DotDims.WF S131072x256 S256x128 S131072x128 [1] [0] [0] [1] [] []

variable [Facts]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def fn_norm {F : FTy → Type} [FloatOps F] (arg0 : FVec F S131072x128 .f32) : FVec F S131072x1 .f32 :=
  let v0 : FVec F S131072x128 .f32 := mulf arg0 arg0
  let cst : FVec F S_ .f32 := constant S_ .f32 0x00000000#32
  let v1 : FVec F S131072 .f32 := (fun x v => Host.reduceAdd x v reducesTo_S131072x128_S131072_d1 h_S_) v0 cst
  let v2 : FVec F S131072x1 .f32 := broadcastInDim S131072x1 ![0] bcast_S131072_S131072x1_0 v1
  let v3 : FVec F S131072x1 .f32 := Host.sqrt v2
  v3

def fn_expmap0 {F : FTy → Type} [FloatOps F] (arg0 : FVec F S131072x128 .f32) : FVec F S131072x128 .f32 :=
  let cst : FVec F S_ .f32 := constant S_ .f32 0x3F800000#32
  let v0 : FVec F S_ .f32 := Host.sqrt cst
  let v1 : FVec F S131072x1 .f32 := fn_norm (F := F) arg0
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S_ .f32 := id v0
  let v5 : FVec F S131072x1 .f32 := broadcastInDim S131072x1 ![] bcast_S_S131072x1 v4
  let v6 : FVec F S131072x1 .f32 := mulf v5 v3
  let v7 : FVec F S131072x1 .f32 := Host.tanh v6
  let v8 : FVec F S131072x128 .f32 := broadcastInDim S131072x128 ![0, 1] bcast_S131072x1_S131072x128_0_1 v7
  let v9 : FVec F S131072x128 .f32 := mulf v8 arg0
  let v10 : FVec F S_ .f32 := id v0
  let v11 : FVec F S131072x1 .f32 := broadcastInDim S131072x1 ![] bcast_S_S131072x1 v10
  let v12 : FVec F S131072x1 .f32 := mulf v11 v3
  let v13 : FVec F S131072x128 .f32 := broadcastInDim S131072x128 ![0, 1] bcast_S131072x1_S131072x128_0_1 v12
  let v14 : FVec F S131072x128 .f32 := Host.divf v9 v13
  v14

def fn_where {F : FTy → Type} [FloatOps F] (arg0 : IVec S131072x1 1) (arg1 : FVec F S131072x128 .f32) (arg2 : FVec F S131072x128 .f32) : FVec F S131072x128 .f32 :=
  let v0 : IVec S131072x128 1 := broadcastInDim S131072x128 ![0, 1] bcast_S131072x1_S131072x128_0_1 arg0
  let v1 : FVec F S131072x128 .f32 := select v0 arg1 arg2
  v1

def fn_proj {F : FTy → Type} [FloatOps F] (arg0 : FVec F S131072x128 .f32) : FVec F S131072x128 .f32 :=
  let v0 : FVec F S131072x1 .f32 := fn_norm (F := F) arg0
  let cst : FVec F S_ .f32 := constant S_ .f32 0x26901D7D#32
  let v1 : FVec F S131072x1 .f32 := broadcastInDim S131072x1 ![] bcast_S_S131072x1 cst
  let v2 : FVec F S131072x1 .f32 := maximumf v0 v1
  let cst_0 : FVec F S_ .f32 := constant S_ .f32 0x3F800000#32
  let v3 : FVec F S_ .f32 := Host.sqrt cst_0
  let cst_1 : FVec F S_ .f32 := constant S_ .f32 0x3F7EF9DB#32
  let v4 : FVec F S_ .f32 := Host.divf cst_1 v3
  let v5 : FVec F S_ .f32 := id v4
  let v6 : FVec F S131072x1 .f32 := broadcastInDim S131072x1 ![] bcast_S_S131072x1 v5
  let v7 : IVec S131072x1 1 := cmpf .ogt v2 v6
  let v8 : FVec F S131072x128 .f32 := broadcastInDim S131072x128 ![0, 1] bcast_S131072x1_S131072x128_0_1 v2
  let v9 : FVec F S131072x128 .f32 := Host.divf arg0 v8
  let v10 : FVec F S_ .f32 := id v4
  let v11 : FVec F S131072x128 .f32 := broadcastInDim S131072x128 ![] bcast_S_S131072x128 v10
  let v12 : FVec F S131072x128 .f32 := mulf v9 v11
  let v13 : FVec F S131072x128 .f32 := fn_where (F := F) v7 v12 arg0
  v13

def fn_norm_0 {F : FTy → Type} [FloatOps F] (arg0 : FVec F S131072x128 .f32) : FVec F S131072x1 .f32 :=
  let v0 : FVec F S131072x128 .f32 := mulf arg0 arg0
  let cst : FVec F S_ .f32 := constant S_ .f32 0x00000000#32
  let v1 : FVec F S131072 .f32 := (fun x v => Host.reduceAdd x v reducesTo_S131072x128_S131072_d1 h_S_) v0 cst
  let v2 : FVec F S131072x1 .f32 := broadcastInDim S131072x1 ![0] bcast_S131072_S131072x1_0 v1
  let v3 : FVec F S131072x1 .f32 := Host.sqrt v2
  v3

def fn_clip {F : FTy → Type} [FloatOps F] (arg0 : FVec F S131072x1 .f32) (arg1 : FVec F S_ .f32) (arg2 : FVec F S_ .f32) : FVec F S131072x1 .f32 :=
  let v0 : FVec F S_ .f32 := id arg1
  let v1 : FVec F S131072x1 .f32 := broadcastInDim S131072x1 ![] bcast_S_S131072x1 v0
  let v2 : FVec F S131072x1 .f32 := maximumf v1 arg0
  let v3 : FVec F S_ .f32 := id arg2
  let v4 : FVec F S131072x1 .f32 := broadcastInDim S131072x1 ![] bcast_S_S131072x1 v3
  let v5 : FVec F S131072x1 .f32 := minimumf v4 v2
  v5

def fn_mobius_matvec_part1 {F : FTy → Type} [FloatOps F] (v0 : FVec F S_ .f32) (v5 : FVec F S131072x128 .f32) (v8 : FVec F S131072x1 .f32) (v9 : FVec F S131072x1 .f32) (v17 : FVec F S131072x1 .f32) (cst_4 : FVec F S_ .f32) : FVec F S131072x128 .f32 :=
  let v18 : FVec F S131072x1 .f32 := broadcastInDim S131072x1 ![] bcast_S_S131072x1 cst_4
  let v19 : FVec F S131072x1 .f32 := mulf v18 v17
  let v20 : FVec F S131072x1 .f32 := mulf v9 v19
  let v21 : FVec F S131072x1 .f32 := Host.tanh v20
  let v22 : FVec F S131072x128 .f32 := broadcastInDim S131072x128 ![0, 1] bcast_S131072x1_S131072x128_0_1 v21
  let v23 : FVec F S131072x128 .f32 := mulf v22 v5
  let v24 : FVec F S_ .f32 := id v0
  let v25 : FVec F S131072x1 .f32 := broadcastInDim S131072x1 ![] bcast_S_S131072x1 v24
  let v26 : FVec F S131072x1 .f32 := mulf v8 v25
  let v27 : FVec F S131072x128 .f32 := broadcastInDim S131072x128 ![0, 1] bcast_S131072x1_S131072x128_0_1 v26
  let v28 : FVec F S131072x128 .f32 := Host.divf v23 v27
  let cst_5 : FVec F S_ .f32 := constant S_ .f32 0x00000000#32
  let v29 : FVec F S131072x128 .f32 := broadcastInDim S131072x128 ![] bcast_S_S131072x128 cst_5
  let v30 : IVec S131072x128 1 := cmpf .oeq v5 v29
  let c : IVec S_ 1 := constantI S_ 1 1#1
  let v31 : IVec S131072 1 := (fun x v => Host.reduce IntOp.andi x v reducesTo_S131072x128_S131072_d1 h_S_) v30 c
  let v32 : IVec S131072x1 1 := broadcastInDim S131072x1 ![0] bcast_S131072_S131072x1_0 v31
  let cst_6 : FVec F S_ .f32 := constant S_ .f32 0x00000000#32
  let v33 : FVec F S131072x128 .f32 := broadcastInDim S131072x128 ![] bcast_S_S131072x128 cst_6
  let v34 : FVec F S131072x128 .f32 := fn_where (F := F) v32 v33 v28
  v34

def fn_mobius_matvec {F : FTy → Type} [FloatOps F] (arg0 : FVec F S128x128 .f32) (arg1 : FVec F S131072x128 .f32) : FVec F S131072x128 .f32 :=
  let cst : FVec F S_ .f32 := constant S_ .f32 0x3F800000#32
  let v0 : FVec F S_ .f32 := Host.sqrt cst
  let v1 : FVec F S131072x1 .f32 := fn_norm_0 (F := F) arg1
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S128x128 .f32 := (transpose S128x128 [1, 0] · transposes_S128x128_S128x128_1_0) arg0
  let v5 : FVec F S131072x128 .f32 := (fun l r => Host.dotGeneral dot_S131072x128_S128x128_S131072x128_1_0_0_1_n_n none l r) arg1 v4
  let v6 : FVec F S131072x1 .f32 := fn_norm (F := F) v5
  let cst_1 : FVec F S_ .f32 := constant S_ .f32 0x26901D7D#32
  let v7 : FVec F S131072x1 .f32 := broadcastInDim S131072x1 ![] bcast_S_S131072x1 cst_1
  let v8 : FVec F S131072x1 .f32 := maximumf v6 v7
  let v9 : FVec F S131072x1 .f32 := Host.divf v8 v3
  let v10 : FVec F S_ .f32 := id v0
  let v11 : FVec F S131072x1 .f32 := broadcastInDim S131072x1 ![] bcast_S_S131072x1 v10
  let v12 : FVec F S131072x1 .f32 := mulf v11 v3
  let cst_2 : FVec F S_ .f32 := constant S_ .f32 0xBF7FFFFE#32
  let cst_3 : FVec F S_ .f32 := constant S_ .f32 0x3F7FFFFE#32
  let v13 : FVec F S131072x1 .f32 := fn_clip (F := F) v12 cst_2 cst_3
  let v14 : FVec F S131072x1 .f32 := Host.log1p v13
  let v15 : FVec F S131072x1 .f32 := Host.negf v13
  let v16 : FVec F S131072x1 .f32 := Host.log1p v15
  let v17 : FVec F S131072x1 .f32 := subf v14 v16
  let cst_4 : FVec F S_ .f32 := constant S_ .f32 0x3F000000#32
  fn_mobius_matvec_part1 (F := F) v0 v5 v8 v9 v17 cst_4

def fn_norm_2 {F : FTy → Type} [FloatOps F] (arg0 : FVec F S131072x256 .f32) : FVec F S131072x1 .f32 :=
  let v0 : FVec F S131072x256 .f32 := mulf arg0 arg0
  let cst : FVec F S_ .f32 := constant S_ .f32 0x00000000#32
  let v1 : FVec F S131072 .f32 := (fun x v => Host.reduceAdd x v reducesTo_S131072x256_S131072_d1 h_S_) v0 cst
  let v2 : FVec F S131072x1 .f32 := broadcastInDim S131072x1 ![0] bcast_S131072_S131072x1_0 v1
  let v3 : FVec F S131072x1 .f32 := Host.sqrt v2
  v3

def fn_mobius_matvec_1_part1 {F : FTy → Type} [FloatOps F] (v0 : FVec F S_ .f32) (v5 : FVec F S131072x128 .f32) (v8 : FVec F S131072x1 .f32) (v9 : FVec F S131072x1 .f32) (v17 : FVec F S131072x1 .f32) (cst_4 : FVec F S_ .f32) : FVec F S131072x128 .f32 :=
  let v18 : FVec F S131072x1 .f32 := broadcastInDim S131072x1 ![] bcast_S_S131072x1 cst_4
  let v19 : FVec F S131072x1 .f32 := mulf v18 v17
  let v20 : FVec F S131072x1 .f32 := mulf v9 v19
  let v21 : FVec F S131072x1 .f32 := Host.tanh v20
  let v22 : FVec F S131072x128 .f32 := broadcastInDim S131072x128 ![0, 1] bcast_S131072x1_S131072x128_0_1 v21
  let v23 : FVec F S131072x128 .f32 := mulf v22 v5
  let v24 : FVec F S_ .f32 := id v0
  let v25 : FVec F S131072x1 .f32 := broadcastInDim S131072x1 ![] bcast_S_S131072x1 v24
  let v26 : FVec F S131072x1 .f32 := mulf v8 v25
  let v27 : FVec F S131072x128 .f32 := broadcastInDim S131072x128 ![0, 1] bcast_S131072x1_S131072x128_0_1 v26
  let v28 : FVec F S131072x128 .f32 := Host.divf v23 v27
  let cst_5 : FVec F S_ .f32 := constant S_ .f32 0x00000000#32
  let v29 : FVec F S131072x128 .f32 := broadcastInDim S131072x128 ![] bcast_S_S131072x128 cst_5
  let v30 : IVec S131072x128 1 := cmpf .oeq v5 v29
  let c : IVec S_ 1 := constantI S_ 1 1#1
  let v31 : IVec S131072 1 := (fun x v => Host.reduce IntOp.andi x v reducesTo_S131072x128_S131072_d1 h_S_) v30 c
  let v32 : IVec S131072x1 1 := broadcastInDim S131072x1 ![0] bcast_S131072_S131072x1_0 v31
  let cst_6 : FVec F S_ .f32 := constant S_ .f32 0x00000000#32
  let v33 : FVec F S131072x128 .f32 := broadcastInDim S131072x128 ![] bcast_S_S131072x128 cst_6
  let v34 : FVec F S131072x128 .f32 := fn_where (F := F) v32 v33 v28
  v34

def fn_mobius_matvec_1 {F : FTy → Type} [FloatOps F] (arg0 : FVec F S128x256 .f32) (arg1 : FVec F S131072x256 .f32) : FVec F S131072x128 .f32 :=
  let cst : FVec F S_ .f32 := constant S_ .f32 0x3F800000#32
  let v0 : FVec F S_ .f32 := Host.sqrt cst
  let v1 : FVec F S131072x1 .f32 := fn_norm_2 (F := F) arg1
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S256x128 .f32 := (transpose S256x128 [1, 0] · transposes_S128x256_S256x128_1_0) arg0
  let v5 : FVec F S131072x128 .f32 := (fun l r => Host.dotGeneral dot_S131072x256_S256x128_S131072x128_1_0_0_1_n_n none l r) arg1 v4
  let v6 : FVec F S131072x1 .f32 := fn_norm (F := F) v5
  let cst_1 : FVec F S_ .f32 := constant S_ .f32 0x26901D7D#32
  let v7 : FVec F S131072x1 .f32 := broadcastInDim S131072x1 ![] bcast_S_S131072x1 cst_1
  let v8 : FVec F S131072x1 .f32 := maximumf v6 v7
  let v9 : FVec F S131072x1 .f32 := Host.divf v8 v3
  let v10 : FVec F S_ .f32 := id v0
  let v11 : FVec F S131072x1 .f32 := broadcastInDim S131072x1 ![] bcast_S_S131072x1 v10
  let v12 : FVec F S131072x1 .f32 := mulf v11 v3
  let cst_2 : FVec F S_ .f32 := constant S_ .f32 0xBF7FFFFE#32
  let cst_3 : FVec F S_ .f32 := constant S_ .f32 0x3F7FFFFE#32
  let v13 : FVec F S131072x1 .f32 := fn_clip (F := F) v12 cst_2 cst_3
  let v14 : FVec F S131072x1 .f32 := Host.log1p v13
  let v15 : FVec F S131072x1 .f32 := Host.negf v13
  let v16 : FVec F S131072x1 .f32 := Host.log1p v15
  let v17 : FVec F S131072x1 .f32 := subf v14 v16
  let cst_4 : FVec F S_ .f32 := constant S_ .f32 0x3F000000#32
  fn_mobius_matvec_1_part1 (F := F) v0 v5 v8 v9 v17 cst_4

def fn_mobius_add_part2 {F : FTy → Type} [FloatOps F] (v24 : FVec F S131072x128 .f32) (v35 : FVec F S131072x128 .f32) : FVec F S131072x128 .f32 :=
  let v36 : FVec F S131072x128 .f32 := Host.divf v24 v35
  v36

def fn_mobius_add_part1 {F : FTy → Type} [FloatOps F] (arg1 : FVec F S131072x128 .f32) (v2 : FVec F S131072x1 .f32) (v5 : FVec F S131072x1 .f32) (v8 : FVec F S131072x1 .f32) (v17 : FVec F S131072x128 .f32) : FVec F S131072x128 .f32 :=
  let cst_5 : FVec F S_ .f32 := constant S_ .f32 0x3F800000#32
  let v18 : FVec F S131072x1 .f32 := broadcastInDim S131072x1 ![] bcast_S_S131072x1 cst_5
  let v19 : FVec F S131072x1 .f32 := mulf v18 v2
  let cst_6 : FVec F S_ .f32 := constant S_ .f32 0x3F800000#32
  let v20 : FVec F S131072x1 .f32 := broadcastInDim S131072x1 ![] bcast_S_S131072x1 cst_6
  let v21 : FVec F S131072x1 .f32 := subf v20 v19
  let v22 : FVec F S131072x128 .f32 := broadcastInDim S131072x128 ![0, 1] bcast_S131072x1_S131072x128_0_1 v21
  let v23 : FVec F S131072x128 .f32 := mulf v22 arg1
  let v24 : FVec F S131072x128 .f32 := addf v17 v23
  let cst_7 : FVec F S_ .f32 := constant S_ .f32 0x40000000#32
  let v25 : FVec F S131072x1 .f32 := broadcastInDim S131072x1 ![] bcast_S_S131072x1 cst_7
  let v26 : FVec F S131072x1 .f32 := mulf v25 v8
  let cst_8 : FVec F S_ .f32 := constant S_ .f32 0x3F800000#32
  let v27 : FVec F S131072x1 .f32 := broadcastInDim S131072x1 ![] bcast_S_S131072x1 cst_8
  let v28 : FVec F S131072x1 .f32 := addf v27 v26
  let cst_9 : FVec F S_ .f32 := constant S_ .f32 0x3F800000#32
  let v29 : FVec F S131072x1 .f32 := broadcastInDim S131072x1 ![] bcast_S_S131072x1 cst_9
  let v30 : FVec F S131072x1 .f32 := mulf v29 v2
  let v31 : FVec F S131072x1 .f32 := mulf v30 v5
  let v32 : FVec F S131072x1 .f32 := addf v28 v31
  let cst_10 : FVec F S_ .f32 := constant S_ .f32 0x26901D7D#32
  let v33 : FVec F S131072x1 .f32 := broadcastInDim S131072x1 ![] bcast_S_S131072x1 cst_10
  let v34 : FVec F S131072x1 .f32 := maximumf v32 v33
  let v35 : FVec F S131072x128 .f32 := broadcastInDim S131072x128 ![0, 1] bcast_S131072x1_S131072x128_0_1 v34
  fn_mobius_add_part2 (F := F) v24 v35

def fn_mobius_add {F : FTy → Type} [FloatOps F] (arg0 : FVec F S131072x128 .f32) (arg1 : FVec F S131072x128 .f32) : FVec F S131072x128 .f32 :=
  let v0 : FVec F S131072x128 .f32 := mulf arg0 arg0
  let cst : FVec F S_ .f32 := constant S_ .f32 0x00000000#32
  let v1 : FVec F S131072 .f32 := (fun x v => Host.reduceAdd x v reducesTo_S131072x128_S131072_d1 h_S_) v0 cst
  let v2 : FVec F S131072x1 .f32 := broadcastInDim S131072x1 ![0] bcast_S131072_S131072x1_0 v1
  let v3 : FVec F S131072x128 .f32 := mulf arg1 arg1
  let cst_0 : FVec F S_ .f32 := constant S_ .f32 0x00000000#32
  let v4 : FVec F S131072 .f32 := (fun x v => Host.reduceAdd x v reducesTo_S131072x128_S131072_d1 h_S_) v3 cst_0
  let v5 : FVec F S131072x1 .f32 := broadcastInDim S131072x1 ![0] bcast_S131072_S131072x1_0 v4
  let v6 : FVec F S131072x128 .f32 := mulf arg0 arg1
  let cst_1 : FVec F S_ .f32 := constant S_ .f32 0x00000000#32
  let v7 : FVec F S131072 .f32 := (fun x v => Host.reduceAdd x v reducesTo_S131072x128_S131072_d1 h_S_) v6 cst_1
  let v8 : FVec F S131072x1 .f32 := broadcastInDim S131072x1 ![0] bcast_S131072_S131072x1_0 v7
  let cst_2 : FVec F S_ .f32 := constant S_ .f32 0x40000000#32
  let v9 : FVec F S131072x1 .f32 := broadcastInDim S131072x1 ![] bcast_S_S131072x1 cst_2
  let v10 : FVec F S131072x1 .f32 := mulf v9 v8
  let cst_3 : FVec F S_ .f32 := constant S_ .f32 0x3F800000#32
  let v11 : FVec F S131072x1 .f32 := broadcastInDim S131072x1 ![] bcast_S_S131072x1 cst_3
  let v12 : FVec F S131072x1 .f32 := addf v11 v10
  let cst_4 : FVec F S_ .f32 := constant S_ .f32 0x3F800000#32
  let v13 : FVec F S131072x1 .f32 := broadcastInDim S131072x1 ![] bcast_S_S131072x1 cst_4
  let v14 : FVec F S131072x1 .f32 := mulf v13 v5
  let v15 : FVec F S131072x1 .f32 := addf v12 v14
  let v16 : FVec F S131072x128 .f32 := broadcastInDim S131072x128 ![0, 1] bcast_S131072x1_S131072x128_0_1 v15
  let v17 : FVec F S131072x128 .f32 := mulf v16 arg0
  fn_mobius_add_part1 (F := F) arg1 v2 v5 v8 v17

def fn_mobius_add_3_part2 {F : FTy → Type} [FloatOps F] (v5 : FVec F S1 .f32) (v30 : FVec F S131072x128 .f32) (v34 : FVec F S131072x1 .f32) (v36 : FVec F S131072x1 .f32) : FVec F S131072x128 .f32 :=
  let v37 : FVec F S1x1 .f32 := broadcastInDim S1x1 ![1] bcast_S1_S1x1_1 v5
  let v38 : FVec F S131072x1 .f32 := broadcastInDim S131072x1 ![0, 1] bcast_S1x1_S131072x1_0_1 v37
  let v39 : FVec F S131072x1 .f32 := mulf v36 v38
  let v40 : FVec F S131072x1 .f32 := addf v34 v39
  let cst_10 : FVec F S_ .f32 := constant S_ .f32 0x26901D7D#32
  let v41 : FVec F S131072x1 .f32 := broadcastInDim S131072x1 ![] bcast_S_S131072x1 cst_10
  let v42 : FVec F S131072x1 .f32 := maximumf v40 v41
  let v43 : FVec F S131072x128 .f32 := broadcastInDim S131072x128 ![0, 1] bcast_S131072x1_S131072x128_0_1 v42
  let v44 : FVec F S131072x128 .f32 := Host.divf v30 v43
  v44

def fn_mobius_add_3_part1 {F : FTy → Type} [FloatOps F] (arg0 : FVec F S131072x128 .f32) (arg1 : FVec F S128 .f32) (v2 : FVec F S131072x1 .f32) (v5 : FVec F S1 .f32) (v10 : FVec F S131072x1 .f32) (v14 : FVec F S131072x1 .f32) (v17 : FVec F S1x1 .f32) : FVec F S131072x128 .f32 :=
  let v18 : FVec F S131072x1 .f32 := broadcastInDim S131072x1 ![0, 1] bcast_S1x1_S131072x1_0_1 v17
  let v19 : FVec F S131072x1 .f32 := addf v14 v18
  let v20 : FVec F S131072x128 .f32 := broadcastInDim S131072x128 ![0, 1] bcast_S131072x1_S131072x128_0_1 v19
  let v21 : FVec F S131072x128 .f32 := mulf v20 arg0
  let cst_5 : FVec F S_ .f32 := constant S_ .f32 0x3F800000#32
  let v22 : FVec F S131072x1 .f32 := broadcastInDim S131072x1 ![] bcast_S_S131072x1 cst_5
  let v23 : FVec F S131072x1 .f32 := mulf v22 v2
  let cst_6 : FVec F S_ .f32 := constant S_ .f32 0x3F800000#32
  let v24 : FVec F S131072x1 .f32 := broadcastInDim S131072x1 ![] bcast_S_S131072x1 cst_6
  let v25 : FVec F S131072x1 .f32 := subf v24 v23
  let v26 : FVec F S1x128 .f32 := broadcastInDim S1x128 ![1] bcast_S128_S1x128_1 arg1
  let v27 : FVec F S131072x128 .f32 := broadcastInDim S131072x128 ![0, 1] bcast_S131072x1_S131072x128_0_1 v25
  let v28 : FVec F S131072x128 .f32 := broadcastInDim S131072x128 ![0, 1] bcast_S1x128_S131072x128_0_1 v26
  let v29 : FVec F S131072x128 .f32 := mulf v27 v28
  let v30 : FVec F S131072x128 .f32 := addf v21 v29
  let cst_7 : FVec F S_ .f32 := constant S_ .f32 0x40000000#32
  let v31 : FVec F S131072x1 .f32 := broadcastInDim S131072x1 ![] bcast_S_S131072x1 cst_7
  let v32 : FVec F S131072x1 .f32 := mulf v31 v10
  let cst_8 : FVec F S_ .f32 := constant S_ .f32 0x3F800000#32
  let v33 : FVec F S131072x1 .f32 := broadcastInDim S131072x1 ![] bcast_S_S131072x1 cst_8
  let v34 : FVec F S131072x1 .f32 := addf v33 v32
  let cst_9 : FVec F S_ .f32 := constant S_ .f32 0x3F800000#32
  let v35 : FVec F S131072x1 .f32 := broadcastInDim S131072x1 ![] bcast_S_S131072x1 cst_9
  let v36 : FVec F S131072x1 .f32 := mulf v35 v2
  fn_mobius_add_3_part2 (F := F) v5 v30 v34 v36

def fn_mobius_add_3 {F : FTy → Type} [FloatOps F] (arg0 : FVec F S131072x128 .f32) (arg1 : FVec F S128 .f32) : FVec F S131072x128 .f32 :=
  let v0 : FVec F S131072x128 .f32 := mulf arg0 arg0
  let cst : FVec F S_ .f32 := constant S_ .f32 0x00000000#32
  let v1 : FVec F S131072 .f32 := (fun x v => Host.reduceAdd x v reducesTo_S131072x128_S131072_d1 h_S_) v0 cst
  let v2 : FVec F S131072x1 .f32 := broadcastInDim S131072x1 ![0] bcast_S131072_S131072x1_0 v1
  let v3 : FVec F S128 .f32 := mulf arg1 arg1
  let cst_0 : FVec F S_ .f32 := constant S_ .f32 0x00000000#32
  let v4 : FVec F S_ .f32 := (fun x v => Host.reduceAdd x v reducesTo_S128_S_d0 h_S_) v3 cst_0
  let v5 : FVec F S1 .f32 := broadcastInDim S1 ![] bcast_S_S1 v4
  let v6 : FVec F S1x128 .f32 := broadcastInDim S1x128 ![1] bcast_S128_S1x128_1 arg1
  let v7 : FVec F S131072x128 .f32 := broadcastInDim S131072x128 ![0, 1] bcast_S1x128_S131072x128_0_1 v6
  let v8 : FVec F S131072x128 .f32 := mulf arg0 v7
  let cst_1 : FVec F S_ .f32 := constant S_ .f32 0x00000000#32
  let v9 : FVec F S131072 .f32 := (fun x v => Host.reduceAdd x v reducesTo_S131072x128_S131072_d1 h_S_) v8 cst_1
  let v10 : FVec F S131072x1 .f32 := broadcastInDim S131072x1 ![0] bcast_S131072_S131072x1_0 v9
  let cst_2 : FVec F S_ .f32 := constant S_ .f32 0x40000000#32
  let v11 : FVec F S131072x1 .f32 := broadcastInDim S131072x1 ![] bcast_S_S131072x1 cst_2
  let v12 : FVec F S131072x1 .f32 := mulf v11 v10
  let cst_3 : FVec F S_ .f32 := constant S_ .f32 0x3F800000#32
  let v13 : FVec F S131072x1 .f32 := broadcastInDim S131072x1 ![] bcast_S_S131072x1 cst_3
  let v14 : FVec F S131072x1 .f32 := addf v13 v12
  let cst_4 : FVec F S_ .f32 := constant S_ .f32 0x3F800000#32
  let v15 : FVec F S1 .f32 := broadcastInDim S1 ![] bcast_S_S1 cst_4
  let v16 : FVec F S1 .f32 := mulf v15 v5
  let v17 : FVec F S1x1 .f32 := broadcastInDim S1x1 ![1] bcast_S1_S1x1_1 v16
  fn_mobius_add_3_part1 (F := F) arg0 arg1 v2 v5 v10 v14 v17

def fn_logmap0_part1 {F : FTy → Type} [FloatOps F] (v15 : FVec F S131072x128 .f32) (v18 : FVec F S131072x1 .f32) : FVec F S131072x128 .f32 :=
  let v19 : FVec F S131072x128 .f32 := broadcastInDim S131072x128 ![0, 1] bcast_S131072x1_S131072x128_0_1 v18
  let v20 : FVec F S131072x128 .f32 := Host.divf v15 v19
  v20

def fn_logmap0 {F : FTy → Type} [FloatOps F] (arg0 : FVec F S131072x128 .f32) : FVec F S131072x128 .f32 :=
  let cst : FVec F S_ .f32 := constant S_ .f32 0x3F800000#32
  let v0 : FVec F S_ .f32 := Host.sqrt cst
  let v1 : FVec F S131072x1 .f32 := fn_norm (F := F) arg0
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S_ .f32 := id v0
  let v5 : FVec F S131072x1 .f32 := broadcastInDim S131072x1 ![] bcast_S_S131072x1 v4
  let v6 : FVec F S131072x1 .f32 := mulf v5 v3
  let cst_1 : FVec F S_ .f32 := constant S_ .f32 0xBF7FFFFE#32
  let cst_2 : FVec F S_ .f32 := constant S_ .f32 0x3F7FFFFE#32
  let v7 : FVec F S131072x1 .f32 := fn_clip (F := F) v6 cst_1 cst_2
  let v8 : FVec F S131072x1 .f32 := Host.log1p v7
  let v9 : FVec F S131072x1 .f32 := Host.negf v7
  let v10 : FVec F S131072x1 .f32 := Host.log1p v9
  let v11 : FVec F S131072x1 .f32 := subf v8 v10
  let cst_3 : FVec F S_ .f32 := constant S_ .f32 0x3F000000#32
  let v12 : FVec F S131072x1 .f32 := broadcastInDim S131072x1 ![] bcast_S_S131072x1 cst_3
  let v13 : FVec F S131072x1 .f32 := mulf v12 v11
  let v14 : FVec F S131072x128 .f32 := broadcastInDim S131072x128 ![0, 1] bcast_S131072x1_S131072x128_0_1 v13
  let v15 : FVec F S131072x128 .f32 := mulf v14 arg0
  let v16 : FVec F S_ .f32 := id v0
  let v17 : FVec F S131072x1 .f32 := broadcastInDim S131072x1 ![] bcast_S_S131072x1 v16
  let v18 : FVec F S131072x1 .f32 := mulf v17 v3
  fn_logmap0_part1 (F := F) v15 v18

def fn_mobius_pointwise_mul_part1 {F : FTy → Type} [FloatOps F] (v0 : FVec F S_ .f32) (v4 : FVec F S131072x128 .f32) (v7 : FVec F S131072x1 .f32) (v8 : FVec F S131072x1 .f32) (v16 : FVec F S131072x1 .f32) (v17 : FVec F S131072x1 .f32) : FVec F S131072x128 .f32 :=
  let v18 : FVec F S131072x1 .f32 := mulf v17 v16
  let v19 : FVec F S131072x1 .f32 := mulf v8 v18
  let v20 : FVec F S131072x1 .f32 := Host.tanh v19
  let v21 : FVec F S131072x128 .f32 := broadcastInDim S131072x128 ![0, 1] bcast_S131072x1_S131072x128_0_1 v20
  let v22 : FVec F S131072x128 .f32 := mulf v21 v4
  let v23 : FVec F S_ .f32 := id v0
  let v24 : FVec F S131072x1 .f32 := broadcastInDim S131072x1 ![] bcast_S_S131072x1 v23
  let v25 : FVec F S131072x1 .f32 := mulf v7 v24
  let v26 : FVec F S131072x128 .f32 := broadcastInDim S131072x128 ![0, 1] bcast_S131072x1_S131072x128_0_1 v25
  let v27 : FVec F S131072x128 .f32 := Host.divf v22 v26
  let cst_5 : FVec F S_ .f32 := constant S_ .f32 0x00000000#32
  let v28 : FVec F S131072x128 .f32 := broadcastInDim S131072x128 ![] bcast_S_S131072x128 cst_5
  let v29 : IVec S131072x128 1 := cmpf .oeq v4 v28
  let c : IVec S_ 1 := constantI S_ 1 1#1
  let v30 : IVec S131072 1 := (fun x v => Host.reduce IntOp.andi x v reducesTo_S131072x128_S131072_d1 h_S_) v29 c
  let v31 : IVec S131072x1 1 := broadcastInDim S131072x1 ![0] bcast_S131072_S131072x1_0 v30
  let cst_6 : FVec F S_ .f32 := constant S_ .f32 0x00000000#32
  let v32 : FVec F S131072x128 .f32 := broadcastInDim S131072x128 ![] bcast_S_S131072x128 cst_6
  let v33 : FVec F S131072x128 .f32 := fn_where (F := F) v31 v32 v27
  v33

def fn_mobius_pointwise_mul {F : FTy → Type} [FloatOps F] (arg0 : FVec F S131072x128 .f32) (arg1 : FVec F S131072x128 .f32) : FVec F S131072x128 .f32 :=
  let cst : FVec F S_ .f32 := constant S_ .f32 0x3F800000#32
  let v0 : FVec F S_ .f32 := Host.sqrt cst
  let v1 : FVec F S131072x1 .f32 := fn_norm_0 (F := F) arg1
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S131072x128 .f32 := mulf arg0 arg1
  let v5 : FVec F S131072x1 .f32 := fn_norm (F := F) v4
  let cst_1 : FVec F S_ .f32 := constant S_ .f32 0x26901D7D#32
  let v6 : FVec F S131072x1 .f32 := broadcastInDim S131072x1 ![] bcast_S_S131072x1 cst_1
  let v7 : FVec F S131072x1 .f32 := maximumf v5 v6
  let v8 : FVec F S131072x1 .f32 := Host.divf v7 v3
  let v9 : FVec F S_ .f32 := id v0
  let v10 : FVec F S131072x1 .f32 := broadcastInDim S131072x1 ![] bcast_S_S131072x1 v9
  let v11 : FVec F S131072x1 .f32 := mulf v10 v3
  let cst_2 : FVec F S_ .f32 := constant S_ .f32 0xBF7FFFFE#32
  let cst_3 : FVec F S_ .f32 := constant S_ .f32 0x3F7FFFFE#32
  let v12 : FVec F S131072x1 .f32 := fn_clip (F := F) v11 cst_2 cst_3
  let v13 : FVec F S131072x1 .f32 := Host.log1p v12
  let v14 : FVec F S131072x1 .f32 := Host.negf v12
  let v15 : FVec F S131072x1 .f32 := Host.log1p v14
  let v16 : FVec F S131072x1 .f32 := subf v13 v15
  let cst_4 : FVec F S_ .f32 := constant S_ .f32 0x3F000000#32
  let v17 : FVec F S131072x1 .f32 := broadcastInDim S131072x1 ![] bcast_S_S131072x1 cst_4
  fn_mobius_pointwise_mul_part1 (F := F) v0 v4 v7 v8 v16 v17

def fn_mobius_matvec_4_part1 {F : FTy → Type} [FloatOps F] (v0 : FVec F S_ .f32) (v5 : FVec F S131072x128 .f32) (v8 : FVec F S131072x1 .f32) (v9 : FVec F S131072x1 .f32) (v17 : FVec F S131072x1 .f32) (cst_4 : FVec F S_ .f32) : FVec F S131072x128 .f32 :=
  let v18 : FVec F S131072x1 .f32 := broadcastInDim S131072x1 ![] bcast_S_S131072x1 cst_4
  let v19 : FVec F S131072x1 .f32 := mulf v18 v17
  let v20 : FVec F S131072x1 .f32 := mulf v9 v19
  let v21 : FVec F S131072x1 .f32 := Host.tanh v20
  let v22 : FVec F S131072x128 .f32 := broadcastInDim S131072x128 ![0, 1] bcast_S131072x1_S131072x128_0_1 v21
  let v23 : FVec F S131072x128 .f32 := mulf v22 v5
  let v24 : FVec F S_ .f32 := id v0
  let v25 : FVec F S131072x1 .f32 := broadcastInDim S131072x1 ![] bcast_S_S131072x1 v24
  let v26 : FVec F S131072x1 .f32 := mulf v8 v25
  let v27 : FVec F S131072x128 .f32 := broadcastInDim S131072x128 ![0, 1] bcast_S131072x1_S131072x128_0_1 v26
  let v28 : FVec F S131072x128 .f32 := Host.divf v23 v27
  let cst_5 : FVec F S_ .f32 := constant S_ .f32 0x00000000#32
  let v29 : FVec F S131072x128 .f32 := broadcastInDim S131072x128 ![] bcast_S_S131072x128 cst_5
  let v30 : IVec S131072x128 1 := cmpf .oeq v5 v29
  let c : IVec S_ 1 := constantI S_ 1 1#1
  let v31 : IVec S131072 1 := (fun x v => Host.reduce IntOp.andi x v reducesTo_S131072x128_S131072_d1 h_S_) v30 c
  let v32 : IVec S131072x1 1 := broadcastInDim S131072x1 ![0] bcast_S131072_S131072x1_0 v31
  let cst_6 : FVec F S_ .f32 := constant S_ .f32 0x00000000#32
  let v33 : FVec F S131072x128 .f32 := broadcastInDim S131072x128 ![] bcast_S_S131072x128 cst_6
  let v34 : FVec F S131072x128 .f32 := fn_where (F := F) v32 v33 v28
  v34

def fn_mobius_matvec_4 {F : FTy → Type} [FloatOps F] (arg0 : FVec F S128x128 .f32) (arg1 : FVec F S131072x128 .f32) : FVec F S131072x128 .f32 :=
  let cst : FVec F S_ .f32 := constant S_ .f32 0x3F800000#32
  let v0 : FVec F S_ .f32 := Host.sqrt cst
  let v1 : FVec F S131072x1 .f32 := fn_norm (F := F) arg1
  let cst_0 : FVec F S_ .f32 := constant S_ .f32 0x26901D7D#32
  let v2 : FVec F S131072x1 .f32 := broadcastInDim S131072x1 ![] bcast_S_S131072x1 cst_0
  let v3 : FVec F S131072x1 .f32 := maximumf v1 v2
  let v4 : FVec F S128x128 .f32 := (transpose S128x128 [1, 0] · transposes_S128x128_S128x128_1_0) arg0
  let v5 : FVec F S131072x128 .f32 := (fun l r => Host.dotGeneral dot_S131072x128_S128x128_S131072x128_1_0_0_1_n_n none l r) arg1 v4
  let v6 : FVec F S131072x1 .f32 := fn_norm (F := F) v5
  let cst_1 : FVec F S_ .f32 := constant S_ .f32 0x26901D7D#32
  let v7 : FVec F S131072x1 .f32 := broadcastInDim S131072x1 ![] bcast_S_S131072x1 cst_1
  let v8 : FVec F S131072x1 .f32 := maximumf v6 v7
  let v9 : FVec F S131072x1 .f32 := Host.divf v8 v3
  let v10 : FVec F S_ .f32 := id v0
  let v11 : FVec F S131072x1 .f32 := broadcastInDim S131072x1 ![] bcast_S_S131072x1 v10
  let v12 : FVec F S131072x1 .f32 := mulf v11 v3
  let cst_2 : FVec F S_ .f32 := constant S_ .f32 0xBF7FFFFE#32
  let cst_3 : FVec F S_ .f32 := constant S_ .f32 0x3F7FFFFE#32
  let v13 : FVec F S131072x1 .f32 := fn_clip (F := F) v12 cst_2 cst_3
  let v14 : FVec F S131072x1 .f32 := Host.log1p v13
  let v15 : FVec F S131072x1 .f32 := Host.negf v13
  let v16 : FVec F S131072x1 .f32 := Host.log1p v15
  let v17 : FVec F S131072x1 .f32 := subf v14 v16
  let cst_4 : FVec F S_ .f32 := constant S_ .f32 0x3F000000#32
  fn_mobius_matvec_4_part1 (F := F) v0 v5 v8 v9 v17 cst_4

def fn_part4 {F : FTy → Type} [FloatOps F] (main_v64 : FVec F S131072x128 .f32) (main_v65 : FVec F S131072x128 .f32) (main_v67 : FVec F S131072x128 .f32) (main_v68 : FVec F S131072x128 .f32) (main_v84 : IVec S131072x1 1) (main_v85 : FVec F S131072x1 .f32) (main_cst_7 : FVec F S_ .f32) : IVec S131072x128 1 :=
  let main_v86 : FVec F S131072x1 .f32 := broadcastInDim S131072x1 ![] bcast_S_S131072x1 main_cst_7
  let main_v87 : IVec S131072x1 1 := cmpf .oge main_v85 main_v86
  let main_v88 : IVec S131072x1 1 := andi main_v84 main_v87
  let main_v89 : FVec F S131072x1 .f32 := fn_norm (F := F) main_v64
  let main_cst_8 : FVec F S_ .f32 := constant S_ .f32 0x26901D7D#32
  let main_v90 : FVec F S131072x1 .f32 := broadcastInDim S131072x1 ![] bcast_S_S131072x1 main_cst_8
  let main_v91 : IVec S131072x1 1 := cmpf .oge main_v89 main_v90
  let main_v92 : IVec S131072x1 1 := andi main_v88 main_v91
  let main_v93 : FVec F S131072x1 .f32 := fn_norm (F := F) main_v65
  let main_cst_9 : FVec F S_ .f32 := constant S_ .f32 0x26901D7D#32
  let main_v94 : FVec F S131072x1 .f32 := broadcastInDim S131072x1 ![] bcast_S_S131072x1 main_cst_9
  let main_v95 : IVec S131072x1 1 := cmpf .oge main_v93 main_v94
  let main_v96 : IVec S131072x1 1 := andi main_v92 main_v95
  let main_v97 : FVec F S131072x1 .f32 := fn_norm (F := F) main_v67
  let main_cst_10 : FVec F S_ .f32 := constant S_ .f32 0x26901D7D#32
  let main_v98 : FVec F S131072x1 .f32 := broadcastInDim S131072x1 ![] bcast_S_S131072x1 main_cst_10
  let main_v99 : IVec S131072x1 1 := cmpf .oge main_v97 main_v98
  let main_v100 : IVec S131072x1 1 := andi main_v96 main_v99
  let main_v101 : FVec F S131072x1 .f32 := fn_norm (F := F) main_v68
  let main_cst_11 : FVec F S_ .f32 := constant S_ .f32 0x26901D7D#32
  let main_v102 : FVec F S131072x1 .f32 := broadcastInDim S131072x1 ![] bcast_S_S131072x1 main_cst_11
  let main_v103 : IVec S131072x1 1 := cmpf .oge main_v101 main_v102
  let main_v104 : IVec S131072x1 1 := andi main_v100 main_v103
  let main_v105 : IVec S131072x128 1 := broadcastInDim S131072x128 ![0, 1] bcast_S131072x1_S131072x128_0_1 main_v104
  main_v105

def fn_part3 {F : FTy → Type} [FloatOps F] (main_v9 : FVec F S131072x128 .f32) (main_v31 : FVec F S131072x128 .f32) (main_v45 : FVec F S131072x128 .f32) (main_v53 : FVec F S131072x128 .f32) (main_v54 : IVec S131072x1 1) (main_v56 : FVec F S131072x128 .f32) (main_v58 : FVec F S131072x128 .f32) (main_v60 : FVec F S131072x128 .f32) (main_v62 : FVec F S131072x128 .f32) (main_v64 : FVec F S131072x128 .f32) (main_v65 : FVec F S131072x128 .f32) (main_v66 : FVec F S128x128 .f32) : IVec S131072x128 1 :=
  let main_v67 : FVec F S131072x128 .f32 := (fun l r => Host.dotGeneral dot_S131072x128_S128x128_S131072x128_1_0_0_1_n_n none l r) main_v45 main_v66
  let main_v68 : FVec F S131072x128 .f32 := mulf main_v31 main_v53
  let main_v69 : FVec F S131072x1 .f32 := fn_norm (F := F) main_v9
  let main_cst_3 : FVec F S_ .f32 := constant S_ .f32 0x26901D7D#32
  let main_v70 : FVec F S131072x1 .f32 := broadcastInDim S131072x1 ![] bcast_S_S131072x1 main_cst_3
  let main_v71 : IVec S131072x1 1 := cmpf .oge main_v69 main_v70
  let main_v72 : IVec S131072x1 1 := andi main_v54 main_v71
  let main_v73 : FVec F S131072x1 .f32 := fn_norm (F := F) main_v56
  let main_cst_4 : FVec F S_ .f32 := constant S_ .f32 0x26901D7D#32
  let main_v74 : FVec F S131072x1 .f32 := broadcastInDim S131072x1 ![] bcast_S_S131072x1 main_cst_4
  let main_v75 : IVec S131072x1 1 := cmpf .oge main_v73 main_v74
  let main_v76 : IVec S131072x1 1 := andi main_v72 main_v75
  let main_v77 : FVec F S131072x1 .f32 := fn_norm (F := F) main_v58
  let main_cst_5 : FVec F S_ .f32 := constant S_ .f32 0x26901D7D#32
  let main_v78 : FVec F S131072x1 .f32 := broadcastInDim S131072x1 ![] bcast_S_S131072x1 main_cst_5
  let main_v79 : IVec S131072x1 1 := cmpf .oge main_v77 main_v78
  let main_v80 : IVec S131072x1 1 := andi main_v76 main_v79
  let main_v81 : FVec F S131072x1 .f32 := fn_norm (F := F) main_v60
  let main_cst_6 : FVec F S_ .f32 := constant S_ .f32 0x26901D7D#32
  let main_v82 : FVec F S131072x1 .f32 := broadcastInDim S131072x1 ![] bcast_S_S131072x1 main_cst_6
  let main_v83 : IVec S131072x1 1 := cmpf .oge main_v81 main_v82
  let main_v84 : IVec S131072x1 1 := andi main_v80 main_v83
  let main_v85 : FVec F S131072x1 .f32 := fn_norm (F := F) main_v62
  let main_cst_7 : FVec F S_ .f32 := constant S_ .f32 0x26901D7D#32
  fn_part4 (F := F) main_v64 main_v65 main_v67 main_v68 main_v84 main_v85 main_cst_7

def fn_part2 {F : FTy → Type} [FloatOps F] (main_arg1 : FVec F S131072x128 .f32) (main_arg9 : FVec F S3x128 .f32) (main_v9 : FVec F S131072x128 .f32) (main_v12 : FVec F S131072x256 .f32) (main_v13 : FVec F S128x256 .f32) (main_v14 : FVec F S128x256 .f32) (main_v15 : FVec F S128x256 .f32) (main_v16 : FVec F S128x128 .f32) (main_v17 : FVec F S128x128 .f32) (main_v18 : FVec F S128x128 .f32) (main_v31 : FVec F S131072x128 .f32) (main_v42 : FVec F S131072x128 .f32) (main_v43 : FVec F S131072x128 .f32) : IVec S131072x128 1 :=
  let main_v44 : FVec F S131072x128 .f32 := Host.divf main_v43 main_v42
  let main_v45 : FVec F S131072x128 .f32 := fn_mobius_pointwise_mul (F := F) main_v44 main_arg1
  let main_v46 : FVec F S1x128 .f32 := (extractStridedSlice S1x128 ![1, 0] · slices_S3x128_S1x128_1_0) main_arg9
  let main_v47 : FVec F S128 .f32 := shapeCast S128 main_v46 shapeCasts_S1x128_S128
  let main_v48 : FVec F S131072x128 .f32 := fn_mobius_matvec_4 (F := F) main_v17 main_v45
  let main_v49 : FVec F S131072x128 .f32 := fn_mobius_matvec_1 (F := F) main_v14 main_v12
  let main_v50 : FVec F S131072x128 .f32 := fn_mobius_add (F := F) main_v48 main_v49
  let main_v51 : FVec F S131072x128 .f32 := fn_mobius_add_3 (F := F) main_v50 main_v47
  let main_v52 : FVec F S131072x128 .f32 := Host.negf main_arg1
  let main_v53 : FVec F S131072x128 .f32 := fn_mobius_add (F := F) main_v52 main_v51
  let main_c : IVec S_ 1 := constantI S_ 1 1#1
  let main_v54 : IVec S131072x1 1 := broadcastInDim S131072x1 ![] bcast_S_S131072x1 main_c
  let main_v55 : FVec F S256x128 .f32 := (transpose S256x128 [1, 0] · transposes_S128x256_S256x128_1_0) main_v13
  let main_v56 : FVec F S131072x128 .f32 := (fun l r => Host.dotGeneral dot_S131072x256_S256x128_S131072x128_1_0_0_1_n_n none l r) main_v12 main_v55
  let main_v57 : FVec F S256x128 .f32 := (transpose S256x128 [1, 0] · transposes_S128x256_S256x128_1_0) main_v14
  let main_v58 : FVec F S131072x128 .f32 := (fun l r => Host.dotGeneral dot_S131072x256_S256x128_S131072x128_1_0_0_1_n_n none l r) main_v12 main_v57
  let main_v59 : FVec F S256x128 .f32 := (transpose S256x128 [1, 0] · transposes_S128x256_S256x128_1_0) main_v15
  let main_v60 : FVec F S131072x128 .f32 := (fun l r => Host.dotGeneral dot_S131072x256_S256x128_S131072x128_1_0_0_1_n_n none l r) main_v12 main_v59
  let main_v61 : FVec F S128x128 .f32 := (transpose S128x128 [1, 0] · transposes_S128x128_S128x128_1_0) main_v16
  let main_v62 : FVec F S131072x128 .f32 := (fun l r => Host.dotGeneral dot_S131072x128_S128x128_S131072x128_1_0_0_1_n_n none l r) main_arg1 main_v61
  let main_v63 : FVec F S128x128 .f32 := (transpose S128x128 [1, 0] · transposes_S128x128_S128x128_1_0) main_v18
  let main_v64 : FVec F S131072x128 .f32 := (fun l r => Host.dotGeneral dot_S131072x128_S128x128_S131072x128_1_0_0_1_n_n none l r) main_arg1 main_v63
  let main_v65 : FVec F S131072x128 .f32 := mulf main_v44 main_arg1
  let main_v66 : FVec F S128x128 .f32 := (transpose S128x128 [1, 0] · transposes_S128x128_S128x128_1_0) main_v17
  fn_part3 (F := F) main_v9 main_v31 main_v45 main_v53 main_v54 main_v56 main_v58 main_v60 main_v62 main_v64 main_v65 main_v66

def fn_part1 {F : FTy → Type} [FloatOps F] (main_arg1 : FVec F S131072x128 .f32) (main_arg9 : FVec F S3x128 .f32) (main_v9 : FVec F S131072x128 .f32) (main_v12 : FVec F S131072x256 .f32) (main_v13 : FVec F S128x256 .f32) (main_v14 : FVec F S128x256 .f32) (main_v15 : FVec F S128x256 .f32) (main_v16 : FVec F S128x128 .f32) (main_v17 : FVec F S128x128 .f32) (main_v18 : FVec F S128x128 .f32) (main_v20 : FVec F S128 .f32) (main_v23 : FVec F S131072x128 .f32) : IVec S131072x128 1 :=
  let main_v24 : FVec F S131072x128 .f32 := fn_mobius_add_3 (F := F) main_v23 main_v20
  let main_v25 : FVec F S131072x128 .f32 := fn_logmap0 (F := F) main_v24
  let main_v26 : FVec F S131072x128 .f32 := Host.negf main_v25
  let main_v27 : FVec F S131072x128 .f32 := Host.exp main_v26
  let main_cst : FVec F S_ .f32 := constant S_ .f32 0x3F800000#32
  let main_v28 : FVec F S131072x128 .f32 := broadcastInDim S131072x128 ![] bcast_S_S131072x128 main_cst
  let main_v29 : FVec F S131072x128 .f32 := addf main_v28 main_v27
  let main_cst_0 : FVec F S_ .f32 := constant S_ .f32 0x3F800000#32
  let main_v30 : FVec F S131072x128 .f32 := broadcastInDim S131072x128 ![] bcast_S_S131072x128 main_cst_0
  let main_v31 : FVec F S131072x128 .f32 := Host.divf main_v30 main_v29
  let main_v32 : FVec F S1x128 .f32 := (extractStridedSlice S1x128 ![0, 0] · slices_S3x128_S1x128_0_0) main_arg9
  let main_v33 : FVec F S128 .f32 := shapeCast S128 main_v32 shapeCasts_S1x128_S128
  let main_v34 : FVec F S131072x128 .f32 := fn_mobius_matvec (F := F) main_v16 main_arg1
  let main_v35 : FVec F S131072x128 .f32 := fn_mobius_matvec_1 (F := F) main_v13 main_v12
  let main_v36 : FVec F S131072x128 .f32 := fn_mobius_add (F := F) main_v34 main_v35
  let main_v37 : FVec F S131072x128 .f32 := fn_mobius_add_3 (F := F) main_v36 main_v33
  let main_v38 : FVec F S131072x128 .f32 := fn_logmap0 (F := F) main_v37
  let main_v39 : FVec F S131072x128 .f32 := Host.negf main_v38
  let main_v40 : FVec F S131072x128 .f32 := Host.exp main_v39
  let main_cst_1 : FVec F S_ .f32 := constant S_ .f32 0x3F800000#32
  let main_v41 : FVec F S131072x128 .f32 := broadcastInDim S131072x128 ![] bcast_S_S131072x128 main_cst_1
  let main_v42 : FVec F S131072x128 .f32 := addf main_v41 main_v40
  let main_cst_2 : FVec F S_ .f32 := constant S_ .f32 0x3F800000#32
  let main_v43 : FVec F S131072x128 .f32 := broadcastInDim S131072x128 ![] bcast_S_S131072x128 main_cst_2
  fn_part2 (F := F) main_arg1 main_arg9 main_v9 main_v12 main_v13 main_v14 main_v15 main_v16 main_v17 main_v18 main_v31 main_v42 main_v43

def fn {F : FTy → Type} [FloatOps F] (main_arg0 : FVec F S131072x128 .f32) (main_arg1 : FVec F S131072x128 .f32) (main_arg2 : FVec F S131072 .f32) (main_arg3 : FVec F S131072 .f32) (main_arg4 : FVec F S131072x100 .f32) (main_arg5 : FVec F S128 .f32) (main_arg6 : FVec F S128 .f32) (main_arg7 : FVec F S384x256 .f32) (main_arg8 : FVec F S384x128 .f32) (main_arg9 : FVec F S3x128 .f32) (main_arg10 : FVec F S128x100 .f32) (main_arg11 : FVec F S128 .f32) : IVec S131072x128 1 :=
  let main_v0 : FVec F S131072 .f32 := subf main_arg2 main_arg3
  let main_v1 : FVec F S131072x1 .f32 := broadcastInDim S131072x1 ![0] bcast_S131072_S131072x1_0 main_v0
  let main_v2 : FVec F S1x128 .f32 := broadcastInDim S1x128 ![1] bcast_S128_S1x128_1 main_arg5
  let main_v3 : FVec F S131072x128 .f32 := broadcastInDim S131072x128 ![0, 1] bcast_S131072x1_S131072x128_0_1 main_v1
  let main_v4 : FVec F S131072x128 .f32 := broadcastInDim S131072x128 ![0, 1] bcast_S1x128_S131072x128_0_1 main_v2
  let main_v5 : FVec F S131072x128 .f32 := mulf main_v3 main_v4
  let main_v6 : FVec F S1x128 .f32 := broadcastInDim S1x128 ![1] bcast_S128_S1x128_1 main_arg6
  let main_v7 : FVec F S131072x128 .f32 := broadcastInDim S131072x128 ![0, 1] bcast_S1x128_S131072x128_0_1 main_v6
  let main_v8 : FVec F S131072x128 .f32 := addf main_v5 main_v7
  let main_v9 : FVec F S131072x128 .f32 := Host.cos main_v8
  let main_v10 : FVec F S131072x128 .f32 := fn_expmap0 (F := F) main_v9
  let main_v11 : FVec F S131072x128 .f32 := fn_proj (F := F) main_v10
  let main_v12 : FVec F S131072x256 .f32 := (fun a b => concatenate S131072x256 1 [⟨S131072x128, a⟩, ⟨S131072x128, b⟩] concatenates_S131072x128_S131072x128_S131072x256_d1) main_arg0 main_v11
  let main_v13 : FVec F S128x256 .f32 := (extractStridedSlice S128x256 ![0, 0] · slices_S384x256_S128x256_0_0) main_arg7
  let main_v14 : FVec F S128x256 .f32 := (extractStridedSlice S128x256 ![128, 0] · slices_S384x256_S128x256_128_0) main_arg7
  let main_v15 : FVec F S128x256 .f32 := (extractStridedSlice S128x256 ![256, 0] · slices_S384x256_S128x256_256_0) main_arg7
  let main_v16 : FVec F S128x128 .f32 := (extractStridedSlice S128x128 ![0, 0] · slices_S384x128_S128x128_0_0) main_arg8
  let main_v17 : FVec F S128x128 .f32 := (extractStridedSlice S128x128 ![128, 0] · slices_S384x128_S128x128_128_0) main_arg8
  let main_v18 : FVec F S128x128 .f32 := (extractStridedSlice S128x128 ![256, 0] · slices_S384x128_S128x128_256_0) main_arg8
  let main_v19 : FVec F S1x128 .f32 := (extractStridedSlice S1x128 ![2, 0] · slices_S3x128_S1x128_2_0) main_arg9
  let main_v20 : FVec F S128 .f32 := shapeCast S128 main_v19 shapeCasts_S1x128_S128
  let main_v21 : FVec F S131072x128 .f32 := fn_mobius_matvec (F := F) main_v18 main_arg1
  let main_v22 : FVec F S131072x128 .f32 := fn_mobius_matvec_1 (F := F) main_v15 main_v12
  let main_v23 : FVec F S131072x128 .f32 := fn_mobius_add (F := F) main_v21 main_v22
  fn_part1 (F := F) main_arg1 main_arg9 main_v9 main_v12 main_v13 main_v14 main_v15 main_v16 main_v17 main_v18 main_v20 main_v23
-- ==== Pre_inputs_finite.lean ====
abbrev S131072x128 : Shape := ⟨2, ![131072, 128]⟩
abbrev S131072 : Shape := ⟨1, ![131072]⟩
abbrev S131072x100 : Shape := ⟨2, ![131072, 100]⟩
abbrev S128 : Shape := ⟨1, ![128]⟩
abbrev S384x256 : Shape := ⟨2, ![384, 256]⟩
abbrev S384x128 : Shape := ⟨2, ![384, 128]⟩
abbrev S3x128 : Shape := ⟨2, ![3, 128]⟩
abbrev S128x100 : Shape := ⟨2, ![128, 100]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072 : S_.BroadcastsInDim S131072 (![] : Fin 0 → Fin S131072.rank)
  reducesTo_S131072_S_d0 : S131072.ReducesTo [0] S_
  bcast_S_S131072x100 : S_.BroadcastsInDim S131072x100 (![] : Fin 0 → Fin S131072x100.rank)
  reducesTo_S131072x100_S_d0_1 : S131072x100.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S3x128 : S_.BroadcastsInDim S3x128 (![] : Fin 0 → Fin S3x128.rank)
  reducesTo_S3x128_S_d0_1 : S3x128.ReducesTo [0, 1] S_
  bcast_S_S128x100 : S_.BroadcastsInDim S128x100 (![] : Fin 0 → Fin S128x100.rank)
  reducesTo_S128x100_S_d0_1 : S128x100.ReducesTo [0, 1] S_

variable [Facts]

def fn_part3 {F : FTy → Type} [FloatOps F] (main_arg11 : FVec F S128 .f32) (main_v48 : IVec S_ 1) (main_v49 : FVec F S128x100 .f32) (main_v50 : FVec F S128x100 .f32) : IVec S_ 1 :=
  let main_v51 : IVec S128x100 1 := cmpf .olt main_v49 main_v50
  let main_c_19 : IVec S_ 1 := constantI S_ 1 1#1
  let main_v52 : IVec S_ 1 := (fun x v => Host.reduce IntOp.andi x v reducesTo_S128x100_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S384x256 .f32) (main_arg8 : FVec F S384x128 .f32) (main_arg9 : FVec F S3x128 .f32) (main_arg10 : FVec F S128x100 .f32) (main_arg11 : FVec F S128 .f32) (main_v33 : IVec S_ 1) : IVec S_ 1 :=
  let main_v34 : FVec F S384x256 .f32 := Host.absf main_arg7
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x100 .f32 := Host.absf main_arg10
  let main_cst_18 : FVec F S_ .f32 := constant S_ .f32 0x7F800000#32
  let main_v50 : FVec F S128x100 .f32 := broadcastInDim S128x100 ![] bcast_S_S128x100 main_cst_18
  fn_part3 (F := F) main_arg11 main_v48 main_v49 main_v50

def fn_part1 {F : FTy → Type} [FloatOps F] (main_arg4 : FVec F S131072x100 .f32) (main_arg5 : FVec F S128 .f32) (main_arg6 : FVec F S128 .f32) (main_arg7 : FVec F S384x256 .f32) (main_arg8 : FVec F S384x128 .f32) (main_arg9 : FVec F S3x128 .f32) (main_arg10 : FVec F S128x100 .f32) (main_arg11 : FVec F S128 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S131072x100 .f32 := Host.absf main_arg4
  let main_cst_6 : FVec F S_ .f32 := constant S_ .f32 0x7F800000#32
  let main_v20 : FVec F S131072x100 .f32 := broadcastInDim S131072x100 ![] bcast_S_S131072x100 main_cst_6
  let main_v21 : IVec S131072x100 1 := cmpf .olt main_v19 main_v20
  let main_c_7 : IVec S_ 1 := constantI S_ 1 1#1
  let main_v22 : IVec S_ 1 := (fun x v => Host.reduce IntOp.andi x v reducesTo_S131072x100_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x128 .f32) (main_arg1 : FVec F S131072x128 .f32) (main_arg2 : FVec F S131072 .f32) (main_arg3 : FVec F S131072 .f32) (main_arg4 : FVec F S131072x100 .f32) (main_arg5 : FVec F S128 .f32) (main_arg6 : FVec F S128 .f32) (main_arg7 : FVec F S384x256 .f32) (main_arg8 : FVec F S384x128 .f32) (main_arg9 : FVec F S3x128 .f32) (main_arg10 : FVec F S128x100 .f32) (main_arg11 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg4 main_arg5 main_arg6 main_arg7 main_arg8 main_arg9 main_arg10 main_arg11 main_v13 main_v16
-- ==== Kernel.lean ====
abbrev S131072x128 : Shape := ⟨2, ![131072, 128]⟩
abbrev S131072 : Shape := ⟨1, ![131072]⟩
abbrev S131072x100 : Shape := ⟨2, ![131072, 100]⟩
abbrev S128 : Shape := ⟨1, ![128]⟩
abbrev S384x256 : Shape := ⟨2, ![384, 256]⟩
abbrev S384x128 : Shape := ⟨2, ![384, 128]⟩
abbrev S3x128 : Shape := ⟨2, ![3, 128]⟩
abbrev S128x100 : Shape := ⟨2, ![128, 100]⟩
abbrev S1x131072 : Shape := ⟨2, ![1, 131072]⟩
abbrev S128x1 : Shape := ⟨2, ![128, 1]⟩
abbrev S128x2048 : Shape := ⟨2, ![128, 2048]⟩
abbrev S128x3 : Shape := ⟨2, ![128, 3]⟩
abbrev S1x128 : Shape := ⟨2, ![1, 128]⟩
abbrev S2048x128 : Shape := ⟨2, ![2048, 128]⟩
abbrev S1x2048 : Shape := ⟨2, ![1, 2048]⟩
abbrev S2048x100 : Shape := ⟨2, ![2048, 100]⟩
abbrev S2048 : Shape := ⟨1, ![2048]⟩
abbrev S256x2048 : Shape := ⟨2, ![256, 2048]⟩
abbrev S384x2048 : Shape := ⟨2, ![384, 2048]⟩
abbrev S3 : Shape := ⟨1, ![3]⟩
abbrev S1x3 : Shape := ⟨2, ![1, 3]⟩
abbrev S1x1 : Shape := ⟨2, ![1, 1]⟩
abbrev S128x128 : Shape := ⟨2, ![128, 128]⟩
abbrev S100x2048 : Shape := ⟨2, ![100, 2048]⟩

abbrev nBuf : Space → Nat
  | .hbm => 34
  | .vmem => 22
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072, .f32⟩
  | .hbm, ⟨3, _⟩ => ⟨S131072, .f32⟩
  | .hbm, ⟨4, _⟩ => ⟨S131072x100, .f32⟩
  | .hbm, ⟨5, _⟩ => ⟨S128, .f32⟩
  | .hbm, ⟨6, _⟩ => ⟨S128, .f32⟩
  | .hbm, ⟨7, _⟩ => ⟨S384x256, .f32⟩
  | .hbm, ⟨8, _⟩ => ⟨S384x128, .f32⟩
  | .hbm, ⟨9, _⟩ => ⟨S3x128, .f32⟩
  | .hbm, ⟨10, _⟩ => ⟨S128x100, .f32⟩
  | .hbm, ⟨11, _⟩ => ⟨S128, .f32⟩
  | .hbm, ⟨12, _⟩ => ⟨S1x131072, .f32⟩
  | .hbm, ⟨13, _⟩ => ⟨S1x131072, .f32⟩
  | .hbm, ⟨14, _⟩ => ⟨S128x1, .f32⟩
  | .hbm, ⟨15, _⟩ => ⟨S128x2048, .f32⟩
  | .hbm, ⟨16, _⟩ => ⟨S128x1, .f32⟩
  | .hbm, ⟨17, _⟩ => ⟨S128x2048, .f32⟩
  | .hbm, ⟨18, _⟩ => ⟨S128x3, .f32⟩
  | .hbm, ⟨19, _⟩ => ⟨S1x128, .f32⟩
  | .hbm, ⟨20, _⟩ => ⟨S128, .f32⟩
  | .hbm, ⟨21, _⟩ => ⟨S128x1, .f32⟩
  | .hbm, ⟨22, _⟩ => ⟨S128x2048, .f32⟩
  | .hbm, ⟨23, _⟩ => ⟨S1x128, .f32⟩
  | .hbm, ⟨24, _⟩ => ⟨S128, .f32⟩
  | .hbm, ⟨25, _⟩ => ⟨S128x1, .f32⟩
  | .hbm, ⟨26, _⟩ => ⟨S128x2048, .f32⟩
  | .hbm, ⟨27, _⟩ => ⟨S1x128, .f32⟩
  | .hbm, ⟨28, _⟩ => ⟨S128, .f32⟩
  | .hbm, ⟨29, _⟩ => ⟨S128x1, .f32⟩
  | .hbm, ⟨30, _⟩ => ⟨S128x2048, .f32⟩
  | .hbm, ⟨31, _⟩ => ⟨S128x1, .f32⟩
  | .hbm, ⟨32, _⟩ => ⟨S128x2048, .f32⟩
  | .hbm, ⟨33, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x100, .f32⟩
  | .local _ .vmem, ⟨9, _⟩ => ⟨S2048x100, .f32⟩
  | .local _ .vmem, ⟨10, _⟩ => ⟨S128x2048, .f32⟩
  | .local _ .vmem, ⟨11, _⟩ => ⟨S128x2048, .f32⟩
  | .local _ .vmem, ⟨12, _⟩ => ⟨S384x256, .f32⟩
  | .local _ .vmem, ⟨13, _⟩ => ⟨S384x128, .f32⟩
  | .local _ .vmem, ⟨14, _⟩ => ⟨S128x3, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x100, .f32⟩
  | .local _ .vmem, ⟨19, _⟩ => ⟨S128x2048, .f32⟩
  | .local _ .vmem, ⟨20, _⟩ => ⟨S2048x128, .f32⟩
  | .local _ .vmem, ⟨21, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "half_ln2" => some ((2⁻¹ * (Real.log 2) : ℝ) : EReal)
  | "inv_ln2" => some (((Real.log 2)⁻¹ : ℝ) : EReal)
  | "min_norm_sq" => some ((89202981441289 / 89202980794122492566142873090593446023921664 : ℝ) : EReal)
  | _ => none
-- ==== ReferenceIdeal.lean ====
abbrev S131072x128 : Shape := ⟨2, ![131072, 128]⟩
abbrev S131072 : Shape := ⟨1, ![131072]⟩
abbrev S131072x100 : Shape := ⟨2, ![131072, 100]⟩
abbrev S128 : Shape := ⟨1, ![128]⟩
abbrev S384x256 : Shape := ⟨2, ![384, 256]⟩
abbrev S384x128 : Shape := ⟨2, ![384, 128]⟩
abbrev S3x128 : Shape := ⟨2, ![3, 128]⟩
abbrev S128x100 : Shape := ⟨2, ![128, 100]⟩
abbrev S131072x1 : Shape := ⟨2, ![131072, 1]⟩
abbrev S1x128 : Shape := ⟨2, ![1, 128]⟩
abbrev S_ : Shape := ⟨0, ![]⟩
abbrev S131072x256 : Shape := ⟨2, ![131072, 256]⟩
abbrev S128x256 : Shape := ⟨2, ![128, 256]⟩
abbrev S128x128 : Shape := ⟨2, ![128, 128]⟩
abbrev S256x128 : Shape := ⟨2, ![256, 128]⟩
abbrev S1 : Shape := ⟨1, ![1]⟩
abbrev S1x1 : Shape := ⟨2, ![1, 1]⟩
abbrev S100x128 : Shape := ⟨2, ![100, 128]⟩

abbrev nBuf : Space → Nat
  | .hbm => 1097
  | .vmem => 0
  | .smem => 0
  | _ => 0

abbrev hbmTy0_0 (i : Nat) : BufTy := match i % 128 with
  | 0 => ⟨S131072x128, .f32⟩
  | 1 => ⟨S131072x128, .f32⟩
  | 2 => ⟨S131072, .f32⟩
  | 3 => ⟨S131072, .f32⟩
  | 4 => ⟨S131072x100, .f32⟩
  | 5 => ⟨S128, .f32⟩
  | 6 => ⟨S128, .f32⟩
  | 7 => ⟨S384x256, .f32⟩
  | 8 => ⟨S384x128, .f32⟩
  | 9 => ⟨S3x128, .f32⟩
  | 10 => ⟨S128x100, .f32⟩
  | 11 => ⟨S128, .f32⟩
  | 12 => ⟨S131072, .f32⟩
  | 13 => ⟨S131072x1, .f32⟩
  | 14 => ⟨S1x128, .f32⟩
  | 15 => ⟨S131072x128, .f32⟩
  | 16 => ⟨S131072x128, .f32⟩
  | 17 => ⟨S131072x128, .f32⟩
  | 18 => ⟨S1x128, .f32⟩
  | 19 => ⟨S131072x128, .f32⟩
  | 20 => ⟨S131072x128, .f32⟩
  | 21 => ⟨S131072x128, .f32⟩
  | 22 => ⟨S_, .f32⟩
  | 23 => ⟨S_, .f32⟩
  | 24 => ⟨S131072x128, .f32⟩
  | 25 => ⟨S_, .f32⟩
  | 26 => ⟨S131072, .f32⟩
  | 27 => ⟨S131072x1, .f32⟩
  | 28 => ⟨S131072x1, .f32⟩
  | 29 => ⟨S_, .f32⟩
  | 30 => ⟨S131072x1, .f32⟩
  | 31 => ⟨S131072x1, .f32⟩
  | 32 => ⟨S_, .f32⟩
  | 33 => ⟨S131072x1, .f32⟩
  | 34 => ⟨S131072x1, .f32⟩
  | 35 => ⟨S131072x1, .f32⟩
  | 36 => ⟨S131072x128, .f32⟩
  | 37 => ⟨S131072x128, .f32⟩
  | 38 => ⟨S_, .f32⟩
  | 39 => ⟨S131072x1, .f32⟩
  | 40 => ⟨S131072x1, .f32⟩
  | 41 => ⟨S131072x128, .f32⟩
  | 42 => ⟨S131072x128, .f32⟩
  | 43 => ⟨S131072x128, .f32⟩
  | 44 => ⟨S_, .f32⟩
  | 45 => ⟨S131072, .f32⟩
  | 46 => ⟨S131072x1, .f32⟩
  | 47 => ⟨S131072x1, .f32⟩
  | 48 => ⟨S_, .f32⟩
  | 49 => ⟨S131072x1, .f32⟩
  | 50 => ⟨S131072x1, .f32⟩
  | 51 => ⟨S_, .f32⟩
  | 52 => ⟨S_, .f32⟩
  | 53 => ⟨S_, .f32⟩
  | 54 => ⟨S_, .f32⟩
  | 55 => ⟨S_, .f32⟩
  | 56 => ⟨S131072x1, .f32⟩
  | 57 => ⟨S131072x1, .i1⟩
  | 58 => ⟨S131072x128, .f32⟩
  | 59 => ⟨S131072x128, .f32⟩
  | 60 => ⟨S_, .f32⟩
  | 61 => ⟨S131072x128, .f32⟩
  | 62 => ⟨S131072x128, .f32⟩
  | 63 => ⟨S131072x128, .i1⟩
  | 64 => ⟨S131072x128, .f32⟩
  | 65 => ⟨S131072x256, .f32⟩
  | 66 => ⟨S128x256, .f32⟩
  | 67 => ⟨S128x256, .f32⟩
  | 68 => ⟨S128x256, .f32⟩
  | 69 => ⟨S128x128, .f32⟩
  | 70 => ⟨S128x128, .f32⟩
  | 71 => ⟨S128x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S_, .f32⟩
  | 79 => ⟨S_, .f32⟩
  | 80 => ⟨S131072x128, .f32⟩
  | 81 => ⟨S_, .f32⟩
  | 82 => ⟨S131072, .f32⟩
  | 83 => ⟨S131072x1, .f32⟩
  | 84 => ⟨S131072x1, .f32⟩
  | 85 => ⟨S_, .f32⟩
  | 86 => ⟨S131072x1, .f32⟩
  | 87 => ⟨S131072x1, .f32⟩
  | 88 => ⟨S128x128, .f32⟩
  | 89 => ⟨S131072x128, .f32⟩
  | 90 => ⟨S131072x128, .f32⟩
  | 91 => ⟨S_, .f32⟩
  | 92 => ⟨S131072, .f32⟩
  | 93 => ⟨S131072x1, .f32⟩
  | 94 => ⟨S131072x1, .f32⟩
  | 95 => ⟨S_, .f32⟩
  | 96 => ⟨S131072x1, .f32⟩
  | 97 => ⟨S131072x1, .f32⟩
  | 98 => ⟨S131072x1, .f32⟩
  | 99 => ⟨S_, .f32⟩
  | 100 => ⟨S131072x1, .f32⟩
  | 101 => ⟨S131072x1, .f32⟩
  | 102 => ⟨S_, .f32⟩
  | 103 => ⟨S_, .f32⟩
  | 104 => ⟨S_, .f32⟩
  | 105 => ⟨S131072x1, .f32⟩
  | 106 => ⟨S131072x1, .f32⟩
  | 107 => ⟨S_, .f32⟩
  | 108 => ⟨S131072x1, .f32⟩
  | 109 => ⟨S131072x1, .f32⟩
  | 110 => ⟨S131072x1, .f32⟩
  | 111 => ⟨S131072x1, .f32⟩
  | 112 => ⟨S131072x1, .f32⟩
  | 113 => ⟨S131072x1, .f32⟩
  | 114 => ⟨S_, .f32⟩
  | 115 => ⟨S131072x1, .f32⟩
  | 116 => ⟨S131072x1, .f32⟩
  | 117 => ⟨S131072x1, .f32⟩
  | 118 => ⟨S131072x1, .f32⟩
  | 119 => ⟨S131072x128, .f32⟩
  | 120 => ⟨S131072x128, .f32⟩
  | 121 => ⟨S_, .f32⟩
  | 122 => ⟨S131072x1, .f32⟩
  | 123 => ⟨S131072x1, .f32⟩
  | 124 => ⟨S131072x128, .f32⟩
  | 125 => ⟨S131072x128, .f32⟩
  | 126 => ⟨S_, .f32⟩
  | 127 => ⟨S131072x128, .f32⟩
  | _ => ⟨S131072x128, .f32⟩

abbrev hbmTy0_1 (i : Nat) : BufTy := match i % 128 with
  | 0 => ⟨S131072x128, .i1⟩
  | 1 => ⟨S_, .i1⟩
  | 2 => ⟨S131072, .i1⟩
  | 3 => ⟨S131072x1, .i1⟩
  | 4 => ⟨S_, .f32⟩
  | 5 => ⟨S131072x128, .f32⟩
  | 6 => ⟨S131072x128, .i1⟩
  | 7 => ⟨S131072x128, .f32⟩
  | 8 => ⟨S_, .f32⟩
  | 9 => ⟨S_, .f32⟩
  | 10 => ⟨S131072x256, .f32⟩
  | 11 => ⟨S_, .f32⟩
  | 12 => ⟨S131072, .f32⟩
  | 13 => ⟨S131072x1, .f32⟩
  | 14 => ⟨S131072x1, .f32⟩
  | 15 => ⟨S_, .f32⟩
  | 16 => ⟨S131072x1, .f32⟩
  | 17 => ⟨S131072x1, .f32⟩
  | 18 => ⟨S256x128, .f32⟩
  | 19 => ⟨S131072x128, .f32⟩
  | 20 => ⟨S131072x128, .f32⟩
  | 21 => ⟨S_, .f32⟩
  | 22 => ⟨S131072, .f32⟩
  | 23 => ⟨S131072x1, .f32⟩
  | 24 => ⟨S131072x1, .f32⟩
  | 25 => ⟨S_, .f32⟩
  | 26 => ⟨S131072x1, .f32⟩
  | 27 => ⟨S131072x1, .f32⟩
  | 28 => ⟨S131072x1, .f32⟩
  | 29 => ⟨S_, .f32⟩
  | 30 => ⟨S131072x1, .f32⟩
  | 31 => ⟨S131072x1, .f32⟩
  | 32 => ⟨S_, .f32⟩
  | 33 => ⟨S_, .f32⟩
  | 34 => ⟨S_, .f32⟩
  | 35 => ⟨S131072x1, .f32⟩
  | 36 => ⟨S131072x1, .f32⟩
  | 37 => ⟨S_, .f32⟩
  | 38 => ⟨S131072x1, .f32⟩
  | 39 => ⟨S131072x1, .f32⟩
  | 40 => ⟨S131072x1, .f32⟩
  | 41 => ⟨S131072x1, .f32⟩
  | 42 => ⟨S131072x1, .f32⟩
  | 43 => ⟨S131072x1, .f32⟩
  | 44 => ⟨S_, .f32⟩
  | 45 => ⟨S131072x1, .f32⟩
  | 46 => ⟨S131072x1, .f32⟩
  | 47 => ⟨S131072x1, .f32⟩
  | 48 => ⟨S131072x1, .f32⟩
  | 49 => ⟨S131072x128, .f32⟩
  | 50 => ⟨S131072x128, .f32⟩
  | 51 => ⟨S_, .f32⟩
  | 52 => ⟨S131072x1, .f32⟩
  | 53 => ⟨S131072x1, .f32⟩
  | 54 => ⟨S131072x128, .f32⟩
  | 55 => ⟨S131072x128, .f32⟩
  | 56 => ⟨S_, .f32⟩
  | 57 => ⟨S131072x128, .f32⟩
  | 58 => ⟨S131072x128, .i1⟩
  | 59 => ⟨S_, .i1⟩
  | 60 => ⟨S131072, .i1⟩
  | 61 => ⟨S131072x1, .i1⟩
  | 62 => ⟨S_, .f32⟩
  | 63 => ⟨S131072x128, .f32⟩
  | 64 => ⟨S131072x128, .i1⟩
  | 65 => ⟨S131072x128, .f32⟩
  | 66 => ⟨S131072x128, .f32⟩
  | 67 => ⟨S_, .f32⟩
  | 68 => ⟨S131072, .f32⟩
  | 69 => ⟨S131072x1, .f32⟩
  | 70 => ⟨S131072x128, .f32⟩
  | 71 => ⟨S_, .f32⟩
  | 72 => ⟨S131072, .f32⟩
  | 73 => ⟨S131072x1, .f32⟩
  | 74 => ⟨S131072x128, .f32⟩
  | 75 => ⟨S_, .f32⟩
  | 76 => ⟨S131072, .f32⟩
  | 77 => ⟨S131072x1, .f32⟩
  | 78 => ⟨S_, .f32⟩
  | 79 => ⟨S131072x1, .f32⟩
  | 80 => ⟨S131072x1, .f32⟩
  | 81 => ⟨S_, .f32⟩
  | 82 => ⟨S131072x1, .f32⟩
  | 83 => ⟨S131072x1, .f32⟩
  | 84 => ⟨S_, .f32⟩
  | 85 => ⟨S131072x1, .f32⟩
  | 86 => ⟨S131072x1, .f32⟩
  | 87 => ⟨S131072x1, .f32⟩
  | 88 => ⟨S131072x128, .f32⟩
  | 89 => ⟨S131072x128, .f32⟩
  | 90 => ⟨S_, .f32⟩
  | 91 => ⟨S131072x1, .f32⟩
  | 92 => ⟨S131072x1, .f32⟩
  | 93 => ⟨S_, .f32⟩
  | 94 => ⟨S131072x1, .f32⟩
  | 95 => ⟨S131072x1, .f32⟩
  | 96 => ⟨S131072x128, .f32⟩
  | 97 => ⟨S131072x128, .f32⟩
  | 98 => ⟨S131072x128, .f32⟩
  | 99 => ⟨S_, .f32⟩
  | 100 => ⟨S131072x1, .f32⟩
  | 101 => ⟨S131072x1, .f32⟩
  | 102 => ⟨S_, .f32⟩
  | 103 => ⟨S131072x1, .f32⟩
  | 104 => ⟨S131072x1, .f32⟩
  | 105 => ⟨S_, .f32⟩
  | 106 => ⟨S131072x1, .f32⟩
  | 107 => ⟨S131072x1, .f32⟩
  | 108 => ⟨S131072x1, .f32⟩
  | 109 => ⟨S131072x1, .f32⟩
  | 110 => ⟨S_, .f32⟩
  | 111 => ⟨S131072x1, .f32⟩
  | 112 => ⟨S131072x1, .f32⟩
  | 113 => ⟨S131072x128, .f32⟩
  | 114 => ⟨S131072x128, .f32⟩
  | 115 => ⟨S131072x128, .f32⟩
  | 116 => ⟨S_, .f32⟩
  | 117 => ⟨S131072, .f32⟩
  | 118 => ⟨S131072x1, .f32⟩
  | 119 => ⟨S128, .f32⟩
  | 120 => ⟨S_, .f32⟩
  | 121 => ⟨S_, .f32⟩
  | 122 => ⟨S1, .f32⟩
  | 123 => ⟨S1x128, .f32⟩
  | 124 => ⟨S131072x128, .f32⟩
  | 125 => ⟨S131072x128, .f32⟩
  | 126 => ⟨S_, .f32⟩
  | 127 => ⟨S131072, .f32⟩
  | _ => ⟨S131072x128, .f32⟩

abbrev hbmTy0_2 (i : Nat) : BufTy := match i % 128 with
  | 0 => ⟨S131072x1, .f32⟩
  | 1 => ⟨S_, .f32⟩
  | 2 => ⟨S131072x1, .f32⟩
  | 3 => ⟨S131072x1, .f32⟩
  | 4 => ⟨S_, .f32⟩
  | 5 => ⟨S131072x1, .f32⟩
  | 6 => ⟨S131072x1, .f32⟩
  | 7 => ⟨S_, .f32⟩
  | 8 => ⟨S1, .f32⟩
  | 9 => ⟨S1, .f32⟩
  | 10 => ⟨S1x1, .f32⟩
  | 11 => ⟨S131072x1, .f32⟩
  | 12 => ⟨S131072x1, .f32⟩
  | 13 => ⟨S131072x128, .f32⟩
  | 14 => ⟨S131072x128, .f32⟩
  | 15 => ⟨S_, .f32⟩
  | 16 => ⟨S131072x1, .f32⟩
  | 17 => ⟨S131072x1, .f32⟩
  | 18 => ⟨S_, .f32⟩
  | 19 => ⟨S131072x1, .f32⟩
  | 20 => ⟨S131072x1, .f32⟩
  | 21 => ⟨S1x128, .f32⟩
  | 22 => ⟨S131072x128, .f32⟩
  | 23 => ⟨S131072x128, .f32⟩
  | 24 => ⟨S131072x128, .f32⟩
  | 25 => ⟨S131072x128, .f32⟩
  | 26 => ⟨S_, .f32⟩
  | 27 => ⟨S131072x1, .f32⟩
  | 28 => ⟨S131072x1, .f32⟩
  | 29 => ⟨S_, .f32⟩
  | 30 => ⟨S131072x1, .f32⟩
  | 31 => ⟨S131072x1, .f32⟩
  | 32 => ⟨S_, .f32⟩
  | 33 => ⟨S131072x1, .f32⟩
  | 34 => ⟨S131072x1, .f32⟩
  | 35 => ⟨S1x1, .f32⟩
  | 36 => ⟨S131072x1, .f32⟩
  | 37 => ⟨S131072x1, .f32⟩
  | 38 => ⟨S131072x1, .f32⟩
  | 39 => ⟨S_, .f32⟩
  | 40 => ⟨S131072x1, .f32⟩
  | 41 => ⟨S131072x1, .f32⟩
  | 42 => ⟨S131072x128, .f32⟩
  | 43 => ⟨S131072x128, .f32⟩
  | 44 => ⟨S_, .f32⟩
  | 45 => ⟨S_, .f32⟩
  | 46 => ⟨S131072x128, .f32⟩
  | 47 => ⟨S_, .f32⟩
  | 48 => ⟨S131072, .f32⟩
  | 49 => ⟨S131072x1, .f32⟩
  | 50 => ⟨S131072x1, .f32⟩
  | 51 => ⟨S_, .f32⟩
  | 52 => ⟨S131072x1, .f32⟩
  | 53 => ⟨S131072x1, .f32⟩
  | 54 => ⟨S_, .f32⟩
  | 55 => ⟨S131072x1, .f32⟩
  | 56 => ⟨S131072x1, .f32⟩
  | 57 => ⟨S_, .f32⟩
  | 58 => ⟨S_, .f32⟩
  | 59 => ⟨S_, .f32⟩
  | 60 => ⟨S131072x1, .f32⟩
  | 61 => ⟨S131072x1, .f32⟩
  | 62 => ⟨S_, .f32⟩
  | 63 => ⟨S131072x1, .f32⟩
  | 64 => ⟨S131072x1, .f32⟩
  | 65 => ⟨S131072x1, .f32⟩
  | 66 => ⟨S131072x1, .f32⟩
  | 67 => ⟨S131072x1, .f32⟩
  | 68 => ⟨S131072x1, .f32⟩
  | 69 => ⟨S_, .f32⟩
  | 70 => ⟨S131072x1, .f32⟩
  | 71 => ⟨S131072x1, .f32⟩
  | 72 => ⟨S131072x128, .f32⟩
  | 73 => ⟨S131072x128, .f32⟩
  | 74 => ⟨S_, .f32⟩
  | 75 => ⟨S131072x1, .f32⟩
  | 76 => ⟨S131072x1, .f32⟩
  | 77 => ⟨S131072x128, .f32⟩
  | 78 => ⟨S131072x128, .f32⟩
  | 79 => ⟨S131072x128, .f32⟩
  | 80 => ⟨S131072x128, .f32⟩
  | 81 => ⟨S_, .f32⟩
  | 82 => ⟨S131072x128, .f32⟩
  | 83 => ⟨S131072x128, .f32⟩
  | 84 => ⟨S_, .f32⟩
  | 85 => ⟨S131072x128, .f32⟩
  | 86 => ⟨S131072x128, .f32⟩
  | 87 => ⟨S_, .f32⟩
  | 88 => ⟨S_, .f32⟩
  | 89 => ⟨S131072x128, .f32⟩
  | 90 => ⟨S_, .f32⟩
  | 91 => ⟨S131072, .f32⟩
  | 92 => ⟨S131072x1, .f32⟩
  | 93 => ⟨S131072x1, .f32⟩
  | 94 => ⟨S_, .f32⟩
  | 95 => ⟨S131072x1, .f32⟩
  | 96 => ⟨S131072x1, .f32⟩
  | 97 => ⟨S128x128, .f32⟩
  | 98 => ⟨S131072x128, .f32⟩
  | 99 => ⟨S131072x128, .f32⟩
  | 100 => ⟨S_, .f32⟩
  | 101 => ⟨S131072, .f32⟩
  | 102 => ⟨S131072x1, .f32⟩
  | 103 => ⟨S131072x1, .f32⟩
  | 104 => ⟨S_, .f32⟩
  | 105 => ⟨S131072x1, .f32⟩
  | 106 => ⟨S131072x1, .f32⟩
  | 107 => ⟨S131072x1, .f32⟩
  | 108 => ⟨S_, .f32⟩
  | 109 => ⟨S131072x1, .f32⟩
  | 110 => ⟨S131072x1, .f32⟩
  | 111 => ⟨S_, .f32⟩
  | 112 => ⟨S_, .f32⟩
  | 113 => ⟨S_, .f32⟩
  | 114 => ⟨S131072x1, .f32⟩
  | 115 => ⟨S131072x1, .f32⟩
  | 116 => ⟨S_, .f32⟩
  | 117 => ⟨S131072x1, .f32⟩
  | 118 => ⟨S131072x1, .f32⟩
  | 119 => ⟨S131072x1, .f32⟩
  | 120 => ⟨S131072x1, .f32⟩
  | 121 => ⟨S131072x1, .f32⟩
  | 122 => ⟨S131072x1, .f32⟩
  | 123 => ⟨S_, .f32⟩
  | 124 => ⟨S131072x1, .f32⟩
  | 125 => ⟨S131072x1, .f32⟩
  | 126 => ⟨S131072x1, .f32⟩
  | 127 => ⟨S131072x1, .f32⟩
  | _ => ⟨S131072x128, .f32⟩

abbrev hbmTy0_3 (i : Nat) : BufTy := match i % 128 with
  | 0 => ⟨S131072x128, .f32⟩
  | 1 => ⟨S131072x128, .f32⟩
  | 2 => ⟨S_, .f32⟩
  | 3 => ⟨S131072x1, .f32⟩
  | 4 => ⟨S131072x1, .f32⟩
  | 5 => ⟨S131072x128, .f32⟩
  | 6 => ⟨S131072x128, .f32⟩
  | 7 => ⟨S_, .f32⟩
  | 8 => ⟨S131072x128, .f32⟩
  | 9 => ⟨S131072x128, .i1⟩
  | 10 => ⟨S_, .i1⟩
  | 11 => ⟨S131072, .i1⟩
  | 12 => ⟨S131072x1, .i1⟩
  | 13 => ⟨S_, .f32⟩
  | 14 => ⟨S131072x128, .f32⟩
  | 15 => ⟨S131072x128, .i1⟩
  | 16 => ⟨S131072x128, .f32⟩
  | 17 => ⟨S_, .f32⟩
  | 18 => ⟨S_, .f32⟩
  | 19 => ⟨S131072x256, .f32⟩
  | 20 => ⟨S_, .f32⟩
  | 21 => ⟨S131072, .f32⟩
  | 22 => ⟨S131072x1, .f32⟩
  | 23 => ⟨S131072x1, .f32⟩
  | 24 => ⟨S_, .f32⟩
  | 25 => ⟨S131072x1, .f32⟩
  | 26 => ⟨S131072x1, .f32⟩
  | 27 => ⟨S256x128, .f32⟩
  | 28 => ⟨S131072x128, .f32⟩
  | 29 => ⟨S131072x128, .f32⟩
  | 30 => ⟨S_, .f32⟩
  | 31 => ⟨S131072, .f32⟩
  | 32 => ⟨S131072x1, .f32⟩
  | 33 => ⟨S131072x1, .f32⟩
  | 34 => ⟨S_, .f32⟩
  | 35 => ⟨S131072x1, .f32⟩
  | 36 => ⟨S131072x1, .f32⟩
  | 37 => ⟨S131072x1, .f32⟩
  | 38 => ⟨S_, .f32⟩
  | 39 => ⟨S131072x1, .f32⟩
  | 40 => ⟨S131072x1, .f32⟩
  | 41 => ⟨S_, .f32⟩
  | 42 => ⟨S_, .f32⟩
  | 43 => ⟨S_, .f32⟩
  | 44 => ⟨S131072x1, .f32⟩
  | 45 => ⟨S131072x1, .f32⟩
  | 46 => ⟨S_, .f32⟩
  | 47 => ⟨S131072x1, .f32⟩
  | 48 => ⟨S131072x1, .f32⟩
  | 49 => ⟨S131072x1, .f32⟩
  | 50 => ⟨S131072x1, .f32⟩
  | 51 => ⟨S131072x1, .f32⟩
  | 52 => ⟨S131072x1, .f32⟩
  | 53 => ⟨S_, .f32⟩
  | 54 => ⟨S131072x1, .f32⟩
  | 55 => ⟨S131072x1, .f32⟩
  | 56 => ⟨S131072x1, .f32⟩
  | 57 => ⟨S131072x1, .f32⟩
  | 58 => ⟨S131072x128, .f32⟩
  | 59 => ⟨S131072x128, .f32⟩
  | 60 => ⟨S_, .f32⟩
  | 61 => ⟨S131072x1, .f32⟩
  | 62 => ⟨S131072x1, .f32⟩
  | 63 => ⟨S131072x128, .f32⟩
  | 64 => ⟨S131072x128, .f32⟩
  | 65 => ⟨S_, .f32⟩
  | 66 => ⟨S131072x128, .f32⟩
  | 67 => ⟨S131072x128, .i1⟩
  | 68 => ⟨S_, .i1⟩
  | 69 => ⟨S131072, .i1⟩
  | 70 => ⟨S131072x1, .i1⟩
  | 71 => ⟨S_, .f32⟩
  | 72 => ⟨S131072x128, .f32⟩
  | 73 => ⟨S131072x128, .i1⟩
  | 74 => ⟨S131072x128, .f32⟩
  | 75 => ⟨S131072x128, .f32⟩
  | 76 => ⟨S_, .f32⟩
  | 77 => ⟨S131072, .f32⟩
  | 78 => ⟨S131072x1, .f32⟩
  | 79 => ⟨S131072x128, .f32⟩
  | 80 => ⟨S_, .f32⟩
  | 81 => ⟨S131072, .f32⟩
  | 82 => ⟨S131072x1, .f32⟩
  | 83 => ⟨S131072x128, .f32⟩
  | 84 => ⟨S_, .f32⟩
  | 85 => ⟨S131072, .f32⟩
  | 86 => ⟨S131072x1, .f32⟩
  | 87 => ⟨S_, .f32⟩
  | 88 => ⟨S131072x1, .f32⟩
  | 89 => ⟨S131072x1, .f32⟩
  | 90 => ⟨S_, .f32⟩
  | 91 => ⟨S131072x1, .f32⟩
  | 92 => ⟨S131072x1, .f32⟩
  | 93 => ⟨S_, .f32⟩
  | 94 => ⟨S131072x1, .f32⟩
  | 95 => ⟨S131072x1, .f32⟩
  | 96 => ⟨S131072x1, .f32⟩
  | 97 => ⟨S131072x128, .f32⟩
  | 98 => ⟨S131072x128, .f32⟩
  | 99 => ⟨S_, .f32⟩
  | 100 => ⟨S131072x1, .f32⟩
  | 101 => ⟨S131072x1, .f32⟩
  | 102 => ⟨S_, .f32⟩
  | 103 => ⟨S131072x1, .f32⟩
  | 104 => ⟨S131072x1, .f32⟩
  | 105 => ⟨S131072x128, .f32⟩
  | 106 => ⟨S131072x128, .f32⟩
  | 107 => ⟨S131072x128, .f32⟩
  | 108 => ⟨S_, .f32⟩
  | 109 => ⟨S131072x1, .f32⟩
  | 110 => ⟨S131072x1, .f32⟩
  | 111 => ⟨S_, .f32⟩
  | 112 => ⟨S131072x1, .f32⟩
  | 113 => ⟨S131072x1, .f32⟩
  | 114 => ⟨S_, .f32⟩
  | 115 => ⟨S131072x1, .f32⟩
  | 116 => ⟨S131072x1, .f32⟩
  | 117 => ⟨S131072x1, .f32⟩
  | 118 => ⟨S131072x1, .f32⟩
  | 119 => ⟨S_, .f32⟩
  | 120 => ⟨S131072x1, .f32⟩
  | 121 => ⟨S131072x1, .f32⟩
  | 122 => ⟨S131072x128, .f32⟩
  | 123 => ⟨S131072x128, .f32⟩
  | 124 => ⟨S131072x128, .f32⟩
  | 125 => ⟨S_, .f32⟩
  | 126 => ⟨S131072, .f32⟩
  | 127 => ⟨S131072x1, .f32⟩
  | _ => ⟨S131072x128, .f32⟩

abbrev hbmTy0_4 (i : Nat) : BufTy := match i % 128 with
  | 0 => ⟨S128, .f32⟩
  | 1 => ⟨S_, .f32⟩
  | 2 => ⟨S_, .f32⟩
  | 3 => ⟨S1, .f32⟩
  | 4 => ⟨S1x128, .f32⟩
  | 5 => ⟨S131072x128, .f32⟩
  | 6 => ⟨S131072x128, .f32⟩
  | 7 => ⟨S_, .f32⟩
  | 8 => ⟨S131072, .f32⟩
  | 9 => ⟨S131072x1, .f32⟩
  | 10 => ⟨S_, .f32⟩
  | 11 => ⟨S131072x1, .f32⟩
  | 12 => ⟨S131072x1, .f32⟩
  | 13 => ⟨S_, .f32⟩
  | 14 => ⟨S131072x1, .f32⟩
  | 15 => ⟨S131072x1, .f32⟩
  | 16 => ⟨S_, .f32⟩
  | 17 => ⟨S1, .f32⟩
  | 18 => ⟨S1, .f32⟩
  | 19 => ⟨S1x1, .f32⟩
  | 20 => ⟨S131072x1, .f32⟩
  | 21 => ⟨S131072x1, .f32⟩
  | 22 => ⟨S131072x128, .f32⟩
  | 23 => ⟨S131072x128, .f32⟩
  | 24 => ⟨S_, .f32⟩
  | 25 => ⟨S131072x1, .f32⟩
  | 26 => ⟨S131072x1, .f32⟩
  | 27 => ⟨S_, .f32⟩
  | 28 => ⟨S131072x1, .f32⟩
  | 29 => ⟨S131072x1, .f32⟩
  | 30 => ⟨S1x128, .f32⟩
  | 31 => ⟨S131072x128, .f32⟩
  | 32 => ⟨S131072x128, .f32⟩
  | 33 => ⟨S131072x128, .f32⟩
  | 34 => ⟨S131072x128, .f32⟩
  | 35 => ⟨S_, .f32⟩
  | 36 => ⟨S131072x1, .f32⟩
  | 37 => ⟨S131072x1, .f32⟩
  | 38 => ⟨S_, .f32⟩
  | 39 => ⟨S131072x1, .f32⟩
  | 40 => ⟨S131072x1, .f32⟩
  | 41 => ⟨S_, .f32⟩
  | 42 => ⟨S131072x1, .f32⟩
  | 43 => ⟨S131072x1, .f32⟩
  | 44 => ⟨S1x1, .f32⟩
  | 45 => ⟨S131072x1, .f32⟩
  | 46 => ⟨S131072x1, .f32⟩
  | 47 => ⟨S131072x1, .f32⟩
  | 48 => ⟨S_, .f32⟩
  | 49 => ⟨S131072x1, .f32⟩
  | 50 => ⟨S131072x1, .f32⟩
  | 51 => ⟨S131072x128, .f32⟩
  | 52 => ⟨S131072x128, .f32⟩
  | 53 => ⟨S_, .f32⟩
  | 54 => ⟨S_, .f32⟩
  | 55 => ⟨S131072x128, .f32⟩
  | 56 => ⟨S_, .f32⟩
  | 57 => ⟨S131072, .f32⟩
  | 58 => ⟨S131072x1, .f32⟩
  | 59 => ⟨S131072x1, .f32⟩
  | 60 => ⟨S_, .f32⟩
  | 61 => ⟨S131072x1, .f32⟩
  | 62 => ⟨S131072x1, .f32⟩
  | 63 => ⟨S_, .f32⟩
  | 64 => ⟨S131072x1, .f32⟩
  | 65 => ⟨S131072x1, .f32⟩
  | 66 => ⟨S_, .f32⟩
  | 67 => ⟨S_, .f32⟩
  | 68 => ⟨S_, .f32⟩
  | 69 => ⟨S131072x1, .f32⟩
  | 70 => ⟨S131072x1, .f32⟩
  | 71 => ⟨S_, .f32⟩
  | 72 => ⟨S131072x1, .f32⟩
  | 73 => ⟨S131072x1, .f32⟩
  | 74 => ⟨S131072x1, .f32⟩
  | 75 => ⟨S131072x1, .f32⟩
  | 76 => ⟨S131072x1, .f32⟩
  | 77 => ⟨S131072x1, .f32⟩
  | 78 => ⟨S_, .f32⟩
  | 79 => ⟨S131072x1, .f32⟩
  | 80 => ⟨S131072x1, .f32⟩
  | 81 => ⟨S131072x128, .f32⟩
  | 82 => ⟨S131072x128, .f32⟩
  | 83 => ⟨S_, .f32⟩
  | 84 => ⟨S131072x1, .f32⟩
  | 85 => ⟨S131072x1, .f32⟩
  | 86 => ⟨S131072x128, .f32⟩
  | 87 => ⟨S131072x128, .f32⟩
  | 88 => ⟨S131072x128, .f32⟩
  | 89 => ⟨S131072x128, .f32⟩
  | 90 => ⟨S_, .f32⟩
  | 91 => ⟨S131072x128, .f32⟩
  | 92 => ⟨S131072x128, .f32⟩
  | 93 => ⟨S_, .f32⟩
  | 94 => ⟨S131072x128, .f32⟩
  | 95 => ⟨S131072x128, .f32⟩
  | 96 => ⟨S_, .f32⟩
  | 97 => ⟨S_, .f32⟩
  | 98 => ⟨S131072x128, .f32⟩
  | 99 => ⟨S_, .f32⟩
  | 100 => ⟨S131072, .f32⟩
  | 101 => ⟨S131072x1, .f32⟩
  | 102 => ⟨S131072x1, .f32⟩
  | 103 => ⟨S_, .f32⟩
  | 104 => ⟨S131072x1, .f32⟩
  | 105 => ⟨S131072x1, .f32⟩
  | 106 => ⟨S131072x128, .f32⟩
  | 107 => ⟨S131072x128, .f32⟩
  | 108 => ⟨S_, .f32⟩
  | 109 => ⟨S131072, .f32⟩
  | 110 => ⟨S131072x1, .f32⟩
  | 111 => ⟨S131072x1, .f32⟩
  | 112 => ⟨S_, .f32⟩
  | 113 => ⟨S131072x1, .f32⟩
  | 114 => ⟨S131072x1, .f32⟩
  | 115 => ⟨S131072x1, .f32⟩
  | 116 => ⟨S_, .f32⟩
  | 117 => ⟨S131072x1, .f32⟩
  | 118 => ⟨S131072x1, .f32⟩
  | 119 => ⟨S_, .f32⟩
  | 120 => ⟨S_, .f32⟩
  | 121 => ⟨S_, .f32⟩
  | 122 => ⟨S131072x1, .f32⟩
  | 123 => ⟨S131072x1, .f32⟩
  | 124 => ⟨S_, .f32⟩
  | 125 => ⟨S131072x1, .f32⟩
  | 126 => ⟨S131072x1, .f32⟩
  | 127 => ⟨S131072x1, .f32⟩
  | _ => ⟨S131072x128, .f32⟩

abbrev hbmTy0_5 (i : Nat) : BufTy := match i % 128 with
  | 0 => ⟨S131072x1, .f32⟩
  | 1 => ⟨S131072x1, .f32⟩
  | 2 => ⟨S131072x1, .f32⟩
  | 3 => ⟨S_, .f32⟩
  | 4 => ⟨S131072x1, .f32⟩
  | 5 => ⟨S131072x1, .f32⟩
  | 6 => ⟨S131072x1, .f32⟩
  | 7 => ⟨S131072x1, .f32⟩
  | 8 => ⟨S131072x128, .f32⟩
  | 9 => ⟨S131072x128, .f32⟩
  | 10 => ⟨S_, .f32⟩
  | 11 => ⟨S131072x1, .f32⟩
  | 12 => ⟨S131072x1, .f32⟩
  | 13 => ⟨S131072x128, .f32⟩
  | 14 => ⟨S131072x128, .f32⟩
  | 15 => ⟨S_, .f32⟩
  | 16 => ⟨S131072x128, .f32⟩
  | 17 => ⟨S131072x128, .i1⟩
  | 18 => ⟨S_, .i1⟩
  | 19 => ⟨S131072, .i1⟩
  | 20 => ⟨S131072x1, .i1⟩
  | 21 => ⟨S_, .f32⟩
  | 22 => ⟨S131072x128, .f32⟩
  | 23 => ⟨S131072x128, .i1⟩
  | 24 => ⟨S131072x128, .f32⟩
  | 25 => ⟨S_, .f32⟩
  | 26 => ⟨S_, .f32⟩
  | 27 => ⟨S131072x128, .f32⟩
  | 28 => ⟨S_, .f32⟩
  | 29 => ⟨S131072, .f32⟩
  | 30 => ⟨S131072x1, .f32⟩
  | 31 => ⟨S131072x1, .f32⟩
  | 32 => ⟨S_, .f32⟩
  | 33 => ⟨S131072x1, .f32⟩
  | 34 => ⟨S131072x1, .f32⟩
  | 35 => ⟨S128x128, .f32⟩
  | 36 => ⟨S131072x128, .f32⟩
  | 37 => ⟨S131072x128, .f32⟩
  | 38 => ⟨S_, .f32⟩
  | 39 => ⟨S131072, .f32⟩
  | 40 => ⟨S131072x1, .f32⟩
  | 41 => ⟨S131072x1, .f32⟩
  | 42 => ⟨S_, .f32⟩
  | 43 => ⟨S131072x1, .f32⟩
  | 44 => ⟨S131072x1, .f32⟩
  | 45 => ⟨S131072x1, .f32⟩
  | 46 => ⟨S_, .f32⟩
  | 47 => ⟨S131072x1, .f32⟩
  | 48 => ⟨S131072x1, .f32⟩
  | 49 => ⟨S_, .f32⟩
  | 50 => ⟨S_, .f32⟩
  | 51 => ⟨S_, .f32⟩
  | 52 => ⟨S131072x1, .f32⟩
  | 53 => ⟨S131072x1, .f32⟩
  | 54 => ⟨S_, .f32⟩
  | 55 => ⟨S131072x1, .f32⟩
  | 56 => ⟨S131072x1, .f32⟩
  | 57 => ⟨S131072x1, .f32⟩
  | 58 => ⟨S131072x1, .f32⟩
  | 59 => ⟨S131072x1, .f32⟩
  | 60 => ⟨S131072x1, .f32⟩
  | 61 => ⟨S_, .f32⟩
  | 62 => ⟨S131072x1, .f32⟩
  | 63 => ⟨S131072x1, .f32⟩
  | 64 => ⟨S131072x1, .f32⟩
  | 65 => ⟨S131072x1, .f32⟩
  | 66 => ⟨S131072x128, .f32⟩
  | 67 => ⟨S131072x128, .f32⟩
  | 68 => ⟨S_, .f32⟩
  | 69 => ⟨S131072x1, .f32⟩
  | 70 => ⟨S131072x1, .f32⟩
  | 71 => ⟨S131072x128, .f32⟩
  | 72 => ⟨S131072x128, .f32⟩
  | 73 => ⟨S_, .f32⟩
  | 74 => ⟨S131072x128, .f32⟩
  | 75 => ⟨S131072x128, .i1⟩
  | 76 => ⟨S_, .i1⟩
  | 77 => ⟨S131072, .i1⟩
  | 78 => ⟨S131072x1, .i1⟩
  | 79 => ⟨S_, .f32⟩
  | 80 => ⟨S131072x128, .f32⟩
  | 81 => ⟨S131072x128, .i1⟩
  | 82 => ⟨S131072x128, .f32⟩
  | 83 => ⟨S_, .f32⟩
  | 84 => ⟨S_, .f32⟩
  | 85 => ⟨S131072x256, .f32⟩
  | 86 => ⟨S_, .f32⟩
  | 87 => ⟨S131072, .f32⟩
  | 88 => ⟨S131072x1, .f32⟩
  | 89 => ⟨S131072x1, .f32⟩
  | 90 => ⟨S_, .f32⟩
  | 91 => ⟨S131072x1, .f32⟩
  | 92 => ⟨S131072x1, .f32⟩
  | 93 => ⟨S256x128, .f32⟩
  | 94 => ⟨S131072x128, .f32⟩
  | 95 => ⟨S131072x128, .f32⟩
  | 96 => ⟨S_, .f32⟩
  | 97 => ⟨S131072, .f32⟩
  | 98 => ⟨S131072x1, .f32⟩
  | 99 => ⟨S131072x1, .f32⟩
  | 100 => ⟨S_, .f32⟩
  | 101 => ⟨S131072x1, .f32⟩
  | 102 => ⟨S131072x1, .f32⟩
  | 103 => ⟨S131072x1, .f32⟩
  | 104 => ⟨S_, .f32⟩
  | 105 => ⟨S131072x1, .f32⟩
  | 106 => ⟨S131072x1, .f32⟩
  | 107 => ⟨S_, .f32⟩
  | 108 => ⟨S_, .f32⟩
  | 109 => ⟨S_, .f32⟩
  | 110 => ⟨S131072x1, .f32⟩
  | 111 => ⟨S131072x1, .f32⟩
  | 112 => ⟨S_, .f32⟩
  | 113 => ⟨S131072x1, .f32⟩
  | 114 => ⟨S131072x1, .f32⟩
  | 115 => ⟨S131072x1, .f32⟩
  | 116 => ⟨S131072x1, .f32⟩
  | 117 => ⟨S131072x1, .f32⟩
  | 118 => ⟨S131072x1, .f32⟩
  | 119 => ⟨S_, .f32⟩
  | 120 => ⟨S131072x1, .f32⟩
  | 121 => ⟨S131072x1, .f32⟩
  | 122 => ⟨S131072x1, .f32⟩
  | 123 => ⟨S131072x1, .f32⟩
  | 124 => ⟨S131072x128, .f32⟩
  | 125 => ⟨S131072x128, .f32⟩
  | 126 => ⟨S_, .f32⟩
  | 127 => ⟨S131072x1, .f32⟩
  | _ => ⟨S131072x128, .f32⟩

abbrev hbmTy0_6 (i : Nat) : BufTy := match i % 128 with
  | 0 => ⟨S131072x1, .f32⟩
  | 1 => ⟨S131072x128, .f32⟩
  | 2 => ⟨S131072x128, .f32⟩
  | 3 => ⟨S_, .f32⟩
  | 4 => ⟨S131072x128, .f32⟩
  | 5 => ⟨S131072x128, .i1⟩
  | 6 => ⟨S_, .i1⟩
  | 7 => ⟨S131072, .i1⟩
  | 8 => ⟨S131072x1, .i1⟩
  | 9 => ⟨S_, .f32⟩
  | 10 => ⟨S131072x128, .f32⟩
  | 11 => ⟨S131072x128, .i1⟩
  | 12 => ⟨S131072x128, .f32⟩
  | 13 => ⟨S131072x128, .f32⟩
  | 14 => ⟨S_, .f32⟩
  | 15 => ⟨S131072, .f32⟩
  | 16 => ⟨S131072x1, .f32⟩
  | 17 => ⟨S131072x128, .f32⟩
  | 18 => ⟨S_, .f32⟩
  | 19 => ⟨S131072, .f32⟩
  | 20 => ⟨S131072x1, .f32⟩
  | 21 => ⟨S131072x128, .f32⟩
  | 22 => ⟨S_, .f32⟩
  | 23 => ⟨S131072, .f32⟩
  | 24 => ⟨S131072x1, .f32⟩
  | 25 => ⟨S_, .f32⟩
  | 26 => ⟨S131072x1, .f32⟩
  | 27 => ⟨S131072x1, .f32⟩
  | 28 => ⟨S_, .f32⟩
  | 29 => ⟨S131072x1, .f32⟩
  | 30 => ⟨S131072x1, .f32⟩
  | 31 => ⟨S_, .f32⟩
  | 32 => ⟨S131072x1, .f32⟩
  | 33 => ⟨S131072x1, .f32⟩
  | 34 => ⟨S131072x1, .f32⟩
  | 35 => ⟨S131072x128, .f32⟩
  | 36 => ⟨S131072x128, .f32⟩
  | 37 => ⟨S_, .f32⟩
  | 38 => ⟨S131072x1, .f32⟩
  | 39 => ⟨S131072x1, .f32⟩
  | 40 => ⟨S_, .f32⟩
  | 41 => ⟨S131072x1, .f32⟩
  | 42 => ⟨S131072x1, .f32⟩
  | 43 => ⟨S131072x128, .f32⟩
  | 44 => ⟨S131072x128, .f32⟩
  | 45 => ⟨S131072x128, .f32⟩
  | 46 => ⟨S_, .f32⟩
  | 47 => ⟨S131072x1, .f32⟩
  | 48 => ⟨S131072x1, .f32⟩
  | 49 => ⟨S_, .f32⟩
  | 50 => ⟨S131072x1, .f32⟩
  | 51 => ⟨S131072x1, .f32⟩
  | 52 => ⟨S_, .f32⟩
  | 53 => ⟨S131072x1, .f32⟩
  | 54 => ⟨S131072x1, .f32⟩
  | 55 => ⟨S131072x1, .f32⟩
  | 56 => ⟨S131072x1, .f32⟩
  | 57 => ⟨S_, .f32⟩
  | 58 => ⟨S131072x1, .f32⟩
  | 59 => ⟨S131072x1, .f32⟩
  | 60 => ⟨S131072x128, .f32⟩
  | 61 => ⟨S131072x128, .f32⟩
  | 62 => ⟨S131072x128, .f32⟩
  | 63 => ⟨S_, .f32⟩
  | 64 => ⟨S131072, .f32⟩
  | 65 => ⟨S131072x1, .f32⟩
  | 66 => ⟨S128, .f32⟩
  | 67 => ⟨S_, .f32⟩
  | 68 => ⟨S_, .f32⟩
  | 69 => ⟨S1, .f32⟩
  | 70 => ⟨S1x128, .f32⟩
  | 71 => ⟨S131072x128, .f32⟩
  | 72 => ⟨S131072x128, .f32⟩
  | 73 => ⟨S_, .f32⟩
  | 74 => ⟨S131072, .f32⟩
  | 75 => ⟨S131072x1, .f32⟩
  | 76 => ⟨S_, .f32⟩
  | 77 => ⟨S131072x1, .f32⟩
  | 78 => ⟨S131072x1, .f32⟩
  | 79 => ⟨S_, .f32⟩
  | 80 => ⟨S131072x1, .f32⟩
  | 81 => ⟨S131072x1, .f32⟩
  | 82 => ⟨S_, .f32⟩
  | 83 => ⟨S1, .f32⟩
  | 84 => ⟨S1, .f32⟩
  | 85 => ⟨S1x1, .f32⟩
  | 86 => ⟨S131072x1, .f32⟩
  | 87 => ⟨S131072x1, .f32⟩
  | 88 => ⟨S131072x128, .f32⟩
  | 89 => ⟨S131072x128, .f32⟩
  | 90 => ⟨S_, .f32⟩
  | 91 => ⟨S131072x1, .f32⟩
  | 92 => ⟨S131072x1, .f32⟩
  | 93 => ⟨S_, .f32⟩
  | 94 => ⟨S131072x1, .f32⟩
  | 95 => ⟨S131072x1, .f32⟩
  | 96 => ⟨S1x128, .f32⟩
  | 97 => ⟨S131072x128, .f32⟩
  | 98 => ⟨S131072x128, .f32⟩
  | 99 => ⟨S131072x128, .f32⟩
  | 100 => ⟨S131072x128, .f32⟩
  | 101 => ⟨S_, .f32⟩
  | 102 => ⟨S131072x1, .f32⟩
  | 103 => ⟨S131072x1, .f32⟩
  | 104 => ⟨S_, .f32⟩
  | 105 => ⟨S131072x1, .f32⟩
  | 106 => ⟨S131072x1, .f32⟩
  | 107 => ⟨S_, .f32⟩
  | 108 => ⟨S131072x1, .f32⟩
  | 109 => ⟨S131072x1, .f32⟩
  | 110 => ⟨S1x1, .f32⟩
  | 111 => ⟨S131072x1, .f32⟩
  | 112 => ⟨S131072x1, .f32⟩
  | 113 => ⟨S131072x1, .f32⟩
  | 114 => ⟨S_, .f32⟩
  | 115 => ⟨S131072x1, .f32⟩
  | 116 => ⟨S131072x1, .f32⟩
  | 117 => ⟨S131072x128, .f32⟩
  | 118 => ⟨S131072x128, .f32⟩
  | 119 => ⟨S131072x128, .f32⟩
  | 120 => ⟨S131072x128, .f32⟩
  | 121 => ⟨S_, .f32⟩
  | 122 => ⟨S131072, .f32⟩
  | 123 => ⟨S131072x1, .f32⟩
  | 124 => ⟨S131072x128, .f32⟩
  | 125 => ⟨S_, .f32⟩
  | 126 => ⟨S131072, .f32⟩
  | 127 => ⟨S131072x1, .f32⟩
  | _ => ⟨S131072x128, .f32⟩

abbrev hbmTy0_7 (i : Nat) : BufTy := match i % 128 with
  | 0 => ⟨S131072x128, .f32⟩
  | 1 => ⟨S_, .f32⟩
  | 2 => ⟨S131072, .f32⟩
  | 3 => ⟨S131072x1, .f32⟩
  | 4 => ⟨S_, .f32⟩
  | 5 => ⟨S131072x1, .f32⟩
  | 6 => ⟨S131072x1, .f32⟩
  | 7 => ⟨S_, .f32⟩
  | 8 => ⟨S131072x1, .f32⟩
  | 9 => ⟨S131072x1, .f32⟩
  | 10 => ⟨S_, .f32⟩
  | 11 => ⟨S131072x1, .f32⟩
  | 12 => ⟨S131072x1, .f32⟩
  | 13 => ⟨S131072x1, .f32⟩
  | 14 => ⟨S131072x128, .f32⟩
  | 15 => ⟨S131072x128, .f32⟩
  | 16 => ⟨S_, .f32⟩
  | 17 => ⟨S131072x1, .f32⟩
  | 18 => ⟨S131072x1, .f32⟩
  | 19 => ⟨S_, .f32⟩
  | 20 => ⟨S131072x1, .f32⟩
  | 21 => ⟨S131072x1, .f32⟩
  | 22 => ⟨S131072x128, .f32⟩
  | 23 => ⟨S131072x128, .f32⟩
  | 24 => ⟨S131072x128, .f32⟩
  | 25 => ⟨S_, .f32⟩
  | 26 => ⟨S131072x1, .f32⟩
  | 27 => ⟨S131072x1, .f32⟩
  | 28 => ⟨S_, .f32⟩
  | 29 => ⟨S131072x1, .f32⟩
  | 30 => ⟨S131072x1, .f32⟩
  | 31 => ⟨S_, .f32⟩
  | 32 => ⟨S131072x1, .f32⟩
  | 33 => ⟨S131072x1, .f32⟩
  | 34 => ⟨S131072x1, .f32⟩
  | 35 => ⟨S131072x1, .f32⟩
  | 36 => ⟨S_, .f32⟩
  | 37 => ⟨S131072x1, .f32⟩
  | 38 => ⟨S131072x1, .f32⟩
  | 39 => ⟨S131072x128, .f32⟩
  | 40 => ⟨S131072x128, .f32⟩
  | 41 => ⟨S_, .f32⟩
  | 42 => ⟨S_, .f32⟩
  | 43 => ⟨S131072x128, .f32⟩
  | 44 => ⟨S_, .f32⟩
  | 45 => ⟨S131072, .f32⟩
  | 46 => ⟨S131072x1, .f32⟩
  | 47 => ⟨S131072x1, .f32⟩
  | 48 => ⟨S_, .f32⟩
  | 49 => ⟨S131072x1, .f32⟩
  | 50 => ⟨S131072x1, .f32⟩
  | 51 => ⟨S131072x128, .f32⟩
  | 52 => ⟨S131072x128, .f32⟩
  | 53 => ⟨S_, .f32⟩
  | 54 => ⟨S131072, .f32⟩
  | 55 => ⟨S131072x1, .f32⟩
  | 56 => ⟨S131072x1, .f32⟩
  | 57 => ⟨S_, .f32⟩
  | 58 => ⟨S131072x1, .f32⟩
  | 59 => ⟨S131072x1, .f32⟩
  | 60 => ⟨S131072x1, .f32⟩
  | 61 => ⟨S_, .f32⟩
  | 62 => ⟨S131072x1, .f32⟩
  | 63 => ⟨S131072x1, .f32⟩
  | 64 => ⟨S_, .f32⟩
  | 65 => ⟨S_, .f32⟩
  | 66 => ⟨S_, .f32⟩
  | 67 => ⟨S131072x1, .f32⟩
  | 68 => ⟨S131072x1, .f32⟩
  | 69 => ⟨S_, .f32⟩
  | 70 => ⟨S131072x1, .f32⟩
  | 71 => ⟨S131072x1, .f32⟩
  | 72 => ⟨S131072x1, .f32⟩
  | 73 => ⟨S131072x1, .f32⟩
  | 74 => ⟨S131072x1, .f32⟩
  | 75 => ⟨S131072x1, .f32⟩
  | 76 => ⟨S_, .f32⟩
  | 77 => ⟨S131072x1, .f32⟩
  | 78 => ⟨S131072x1, .f32⟩
  | 79 => ⟨S131072x1, .f32⟩
  | 80 => ⟨S131072x1, .f32⟩
  | 81 => ⟨S131072x128, .f32⟩
  | 82 => ⟨S131072x128, .f32⟩
  | 83 => ⟨S_, .f32⟩
  | 84 => ⟨S131072x1, .f32⟩
  | 85 => ⟨S131072x1, .f32⟩
  | 86 => ⟨S131072x128, .f32⟩
  | 87 => ⟨S131072x128, .f32⟩
  | 88 => ⟨S_, .f32⟩
  | 89 => ⟨S131072x128, .f32⟩
  | 90 => ⟨S131072x128, .i1⟩
  | 91 => ⟨S_, .i1⟩
  | 92 => ⟨S131072, .i1⟩
  | 93 => ⟨S131072x1, .i1⟩
  | 94 => ⟨S_, .f32⟩
  | 95 => ⟨S131072x128, .f32⟩
  | 96 => ⟨S131072x128, .i1⟩
  | 97 => ⟨S131072x128, .f32⟩
  | 98 => ⟨S131072x128, .f32⟩
  | 99 => ⟨S_, .f32⟩
  | 100 => ⟨S131072, .f32⟩
  | 101 => ⟨S131072x1, .f32⟩
  | 102 => ⟨S131072x128, .f32⟩
  | 103 => ⟨S_, .f32⟩
  | 104 => ⟨S131072, .f32⟩
  | 105 => ⟨S131072x1, .f32⟩
  | 106 => ⟨S131072x128, .f32⟩
  | 107 => ⟨S_, .f32⟩
  | 108 => ⟨S131072, .f32⟩
  | 109 => ⟨S131072x1, .f32⟩
  | 110 => ⟨S_, .f32⟩
  | 111 => ⟨S131072x1, .f32⟩
  | 112 => ⟨S131072x1, .f32⟩
  | 113 => ⟨S_, .f32⟩
  | 114 => ⟨S131072x1, .f32⟩
  | 115 => ⟨S131072x1, .f32⟩
  | 116 => ⟨S_, .f32⟩
  | 117 => ⟨S131072x1, .f32⟩
  | 118 => ⟨S131072x1, .f32⟩
  | 119 => ⟨S131072x1, .f32⟩
  | 120 => ⟨S131072x128, .f32⟩
  | 121 => ⟨S131072x128, .f32⟩
  | 122 => ⟨S_, .f32⟩
  | 123 => ⟨S131072x1, .f32⟩
  | 124 => ⟨S131072x1, .f32⟩
  | 125 => ⟨S_, .f32⟩
  | 126 => ⟨S131072x1, .f32⟩
  | 127 => ⟨S131072x1, .f32⟩
  | _ => ⟨S131072x128, .f32⟩

abbrev hbmTy0_8 (i : Nat) : BufTy := match i % 128 with
  | 0 => ⟨S131072x128, .f32⟩
  | 1 => ⟨S131072x128, .f32⟩
  | 2 => ⟨S131072x128, .f32⟩
  | 3 => ⟨S_, .f32⟩
  | 4 => ⟨S131072x1, .f32⟩
  | 5 => ⟨S131072x1, .f32⟩
  | 6 => ⟨S_, .f32⟩
  | 7 => ⟨S131072x1, .f32⟩
  | 8 => ⟨S131072x1, .f32⟩
  | 9 => ⟨S_, .f32⟩
  | 10 => ⟨S131072x1, .f32⟩
  | 11 => ⟨S131072x1, .f32⟩
  | 12 => ⟨S131072x1, .f32⟩
  | 13 => ⟨S131072x1, .f32⟩
  | 14 => ⟨S_, .f32⟩
  | 15 => ⟨S131072x1, .f32⟩
  | 16 => ⟨S131072x1, .f32⟩
  | 17 => ⟨S131072x128, .f32⟩
  | 18 => ⟨S131072x128, .f32⟩
  | 19 => ⟨S100x128, .f32⟩
  | 20 => ⟨S131072x128, .f32⟩
  | 21 => ⟨S1x128, .f32⟩
  | 22 => ⟨S131072x128, .f32⟩
  | 23 => ⟨S131072x128, .f32⟩
  | 24 => ⟨S131072x128, .f32⟩
  | 25 => ⟨S_, .f32⟩
  | 26 => ⟨S131072, .f32⟩
  | 27 => ⟨S131072x1, .f32⟩
  | 28 => ⟨S131072x128, .f32⟩
  | 29 => ⟨S_, .f32⟩
  | 30 => ⟨S131072, .f32⟩
  | 31 => ⟨S131072x1, .f32⟩
  | 32 => ⟨S131072x128, .f32⟩
  | 33 => ⟨S_, .f32⟩
  | 34 => ⟨S131072, .f32⟩
  | 35 => ⟨S131072x1, .f32⟩
  | 36 => ⟨S_, .f32⟩
  | 37 => ⟨S131072x1, .f32⟩
  | 38 => ⟨S131072x1, .f32⟩
  | 39 => ⟨S_, .f32⟩
  | 40 => ⟨S131072x1, .f32⟩
  | 41 => ⟨S131072x1, .f32⟩
  | 42 => ⟨S_, .f32⟩
  | 43 => ⟨S131072x1, .f32⟩
  | 44 => ⟨S131072x1, .f32⟩
  | 45 => ⟨S131072x1, .f32⟩
  | 46 => ⟨S131072x128, .f32⟩
  | 47 => ⟨S131072x128, .f32⟩
  | 48 => ⟨S_, .f32⟩
  | 49 => ⟨S131072x1, .f32⟩
  | 50 => ⟨S131072x1, .f32⟩
  | 51 => ⟨S_, .f32⟩
  | 52 => ⟨S131072x1, .f32⟩
  | 53 => ⟨S131072x1, .f32⟩
  | 54 => ⟨S131072x128, .f32⟩
  | 55 => ⟨S131072x128, .f32⟩
  | 56 => ⟨S131072x128, .f32⟩
  | 57 => ⟨S_, .f32⟩
  | 58 => ⟨S131072x1, .f32⟩
  | 59 => ⟨S131072x1, .f32⟩
  | 60 => ⟨S_, .f32⟩
  | 61 => ⟨S131072x1, .f32⟩
  | 62 => ⟨S131072x1, .f32⟩
  | 63 => ⟨S_, .f32⟩
  | 64 => ⟨S131072x1, .f32⟩
  | 65 => ⟨S131072x1, .f32⟩
  | 66 => ⟨S131072x1, .f32⟩
  | 67 => ⟨S131072x1, .f32⟩
  | 68 => ⟨S_, .f32⟩
  | 69 => ⟨S131072x1, .f32⟩
  | 70 => ⟨S131072x1, .f32⟩
  | 71 => ⟨S131072x128, .f32⟩
  | 72 => ⟨S131072x128, .f32⟩
  | _ => ⟨S131072x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_call3_v2 : Ref sig .tc := ⟨.hbm, 83, rfl⟩
abbrev main_v53 : Ref sig .tc := ⟨.hbm, 84, rfl⟩
abbrev main_cst_5 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call4_v0 : Ref sig .tc := ⟨.hbm, 90, rfl⟩
abbrev main_call4_cst : Ref sig .tc := ⟨.hbm, 91, rfl⟩
abbrev main_call4_v1 : Ref sig .tc := ⟨.hbm, 92, rfl⟩
abbrev main_call4_v2 : Ref sig .tc := ⟨.hbm, 93, rfl⟩
abbrev main_v58 : Ref sig .tc := ⟨.hbm, 94, rfl⟩
abbrev main_cst_6 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_7 : Ref sig .tc := ⟨.hbm, 102, rfl⟩
abbrev main_cst_8 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_9 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_10 : Ref sig .tc := ⟨.hbm, 126, rfl⟩
abbrev main_v81 : Ref sig .tc := ⟨.hbm, 127, rfl⟩
abbrev main_v82 : Ref sig .tc := ⟨.hbm, 128, rfl⟩
abbrev main_c : Ref sig .tc := ⟨.hbm, 129, rfl⟩
abbrev main_v83 : Ref sig .tc := ⟨.hbm, 130, rfl⟩
abbrev main_v84 : Ref sig .tc := ⟨.hbm, 131, rfl⟩
abbrev main_cst_11 : Ref sig .tc := ⟨.hbm, 132, rfl⟩
abbrev main_v85 : Ref sig .tc := ⟨.hbm, 133, rfl⟩
abbrev main_call6_v0 : Ref sig .tc := ⟨.hbm, 134, rfl⟩
abbrev main_v86 : Ref sig .tc := ⟨.hbm, 135, rfl⟩
abbrev main_cst_12 : Ref sig .tc := ⟨.hbm, 136, rfl⟩
abbrev main_v87 : Ref sig .tc := ⟨.hbm, 137, rfl⟩
abbrev main_call7_v0 : Ref sig .tc := ⟨.hbm, 138, rfl⟩
abbrev main_call7_cst : Ref sig .tc := ⟨.hbm, 139, rfl⟩
abbrev main_call7_v1 : Ref sig .tc := ⟨.hbm, 140, rfl⟩
abbrev main_call7_v2 : Ref sig .tc := ⟨.hbm, 141, rfl⟩
abbrev main_v88 : Ref sig .tc := ⟨.hbm, 142, rfl⟩
abbrev main_cst_13 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_call8_v0 : Ref sig .tc := ⟨.hbm, 148, rfl⟩
abbrev main_call8_cst : Ref sig .tc := ⟨.hbm, 149, rfl⟩
abbrev main_call8_v1 : Ref sig .tc := ⟨.hbm, 150, rfl⟩
abbrev main_call8_v2 : Ref sig .tc := ⟨.hbm, 151, rfl⟩
abbrev main_v93 : Ref sig .tc := ⟨.hbm, 152, rfl⟩
abbrev main_cst_14 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_15 : Ref sig .tc := ⟨.hbm, 160, rfl⟩
abbrev main_cst_16 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_17 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_18 : Ref sig .tc := ⟨.hbm, 184, rfl⟩
abbrev main_v116 : Ref sig .tc := ⟨.hbm, 185, rfl⟩
abbrev main_v117 : Ref sig .tc := ⟨.hbm, 186, rfl⟩
abbrev main_c_19 : Ref sig .tc := ⟨.hbm, 187, rfl⟩
abbrev main_v118 : Ref sig .tc := ⟨.hbm, 188, rfl⟩
abbrev main_v119 : Ref sig .tc := ⟨.hbm, 189, rfl⟩
abbrev main_cst_20 : Ref sig .tc := ⟨.hbm, 190, rfl⟩
abbrev main_v120 : Ref sig .tc := ⟨.hbm, 191, rfl⟩
abbrev main_call10_v0 : Ref sig .tc := ⟨.hbm, 192, rfl⟩
abbrev main_v121 : Ref sig .tc := ⟨.hbm, 193, rfl⟩
abbrev main_v122 : Ref sig .tc := ⟨.hbm, 194, rfl⟩
abbrev main_cst_21 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_cst_22 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_cst_23 : Ref sig .tc := ⟨.hbm, 203, rfl⟩
abbrev main_v129 : Ref sig .tc := ⟨.hbm, 204, rfl⟩
abbrev main_v130 : Ref sig .tc := ⟨.hbm, 205, rfl⟩
abbrev main_cst_24 : Ref sig .tc := ⟨.hbm, 206, rfl⟩
abbrev main_v131 : Ref sig .tc := ⟨.hbm, 207, rfl⟩
abbrev main_v132 : Ref sig .tc := ⟨.hbm, 208, rfl⟩
abbrev main_cst_25 : Ref sig .tc := ⟨.hbm, 209, rfl⟩
abbrev main_v133 : Ref sig .tc := ⟨.hbm, 210, rfl⟩
abbrev main_v134 : Ref sig .tc := ⟨.hbm, 211, rfl⟩
abbrev main_cst_26 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_cst_27 : Ref sig .tc := ⟨.hbm, 218, rfl⟩
abbrev main_v140 : Ref sig .tc := ⟨.hbm, 219, rfl⟩
abbrev main_v141 : Ref sig .tc := ⟨.hbm, 220, rfl⟩
abbrev main_cst_28 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_cst_29 : Ref sig .tc := ⟨.hbm, 227, rfl⟩
abbrev main_v147 : Ref sig .tc := ⟨.hbm, 228, rfl⟩
abbrev main_v148 : Ref sig .tc := ⟨.hbm, 229, rfl⟩
abbrev main_cst_30 : Ref sig .tc := ⟨.hbm, 230, rfl⟩
abbrev main_v149 : Ref sig .tc := ⟨.hbm, 231, rfl⟩
abbrev main_v150 : Ref sig .tc := ⟨.hbm, 232, rfl⟩
abbrev main_cst_31 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_32 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_cst_33 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_cst_34 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_35 : Ref sig .tc := ⟨.hbm, 254, rfl⟩
abbrev main_v168 : Ref sig .tc := ⟨.hbm, 255, rfl⟩
abbrev main_v169 : Ref sig .tc := ⟨.hbm, 256, rfl⟩
abbrev main_cst_36 : Ref sig .tc := ⟨.hbm, 257, rfl⟩
abbrev main_v170 : Ref sig .tc := ⟨.hbm, 258, rfl⟩
abbrev main_v171 : Ref sig .tc := ⟨.hbm, 259, rfl⟩
abbrev main_cst_37 : Ref sig .tc := ⟨.hbm, 260, rfl⟩
abbrev main_v172 : Ref sig .tc := ⟨.hbm, 261, rfl⟩
abbrev main_v173 : Ref sig .tc := ⟨.hbm, 262, rfl⟩
abbrev main_cst_38 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_cst_39 : Ref sig .tc := ⟨.hbm, 271, rfl⟩
abbrev main_v181 : Ref sig .tc := ⟨.hbm, 272, rfl⟩
abbrev main_v182 : Ref sig .tc := ⟨.hbm, 273, rfl⟩
abbrev main_cst_40 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_cst_41 : Ref sig .tc := ⟨.hbm, 282, rfl⟩
abbrev main_v190 : Ref sig .tc := ⟨.hbm, 283, rfl⟩
abbrev main_v191 : Ref sig .tc := ⟨.hbm, 284, rfl⟩
abbrev main_cst_42 : Ref sig .tc := ⟨.hbm, 285, rfl⟩
abbrev main_v192 : Ref sig .tc := ⟨.hbm, 286, rfl⟩
abbrev main_v193 : Ref sig .tc := ⟨.hbm, 287, rfl⟩
abbrev main_cst_43 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_cst_44 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_cst_45 : Ref sig .tc := ⟨.hbm, 300, rfl⟩
abbrev main_v204 : Ref sig .tc := ⟨.hbm, 301, rfl⟩
abbrev main_call11_v0 : Ref sig .tc := ⟨.hbm, 302, rfl⟩
abbrev main_call11_cst : Ref sig .tc := ⟨.hbm, 303, rfl⟩
abbrev main_call11_v1 : Ref sig .tc := ⟨.hbm, 304, rfl⟩
abbrev main_call11_v2 : Ref sig .tc := ⟨.hbm, 305, rfl⟩
abbrev main_v205 : Ref sig .tc := ⟨.hbm, 306, rfl⟩
abbrev main_cst_46 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_cst_47 : Ref sig .tc := ⟨.hbm, 313, rfl⟩
abbrev main_cst_48 : Ref sig .tc := ⟨.hbm, 314, rfl⟩
abbrev main_call12_v0 : Ref sig .tc := ⟨.hbm, 315, rfl⟩
abbrev main_call12_v1 : Ref sig .tc := ⟨.hbm, 316, rfl⟩
abbrev main_call12_v2 : Ref sig .tc := ⟨.hbm, 317, rfl⟩
abbrev main_call12_v3 : Ref sig .tc := ⟨.hbm, 318, rfl⟩
abbrev main_call12_v4 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_cst_49 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_cst_50 : Ref sig .tc := ⟨.hbm, 337, rfl⟩
abbrev main_v227 : Ref sig .tc := ⟨.hbm, 338, rfl⟩
abbrev main_v228 : Ref sig .tc := ⟨.hbm, 339, rfl⟩
abbrev main_cst_51 : Ref sig .tc := ⟨.hbm, 340, rfl⟩
abbrev main_v229 : Ref sig .tc := ⟨.hbm, 341, rfl⟩
abbrev main_v230 : Ref sig .tc := ⟨.hbm, 342, rfl⟩
abbrev main_cst_52 : Ref sig .tc := ⟨.hbm, 343, rfl⟩
abbrev main_v231 : Ref sig .tc := ⟨.hbm, 344, rfl⟩
abbrev main_call13_v0 : Ref sig .tc := ⟨.hbm, 345, rfl⟩
abbrev main_call13_cst : Ref sig .tc := ⟨.hbm, 346, rfl⟩
abbrev main_call13_v1 : Ref sig .tc := ⟨.hbm, 347, rfl⟩
abbrev main_call13_v2 : Ref sig .tc := ⟨.hbm, 348, rfl⟩
abbrev main_v232 : Ref sig .tc := ⟨.hbm, 349, rfl⟩
abbrev main_cst_53 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_call14_v0 : Ref sig .tc := ⟨.hbm, 355, rfl⟩
abbrev main_call14_cst : Ref sig .tc := ⟨.hbm, 356, rfl⟩
abbrev main_call14_v1 : Ref sig .tc := ⟨.hbm, 357, rfl⟩
abbrev main_call14_v2 : Ref sig .tc := ⟨.hbm, 358, rfl⟩
abbrev main_v237 : Ref sig .tc := ⟨.hbm, 359, rfl⟩
abbrev main_cst_54 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_cst_55 : Ref sig .tc := ⟨.hbm, 367, rfl⟩
abbrev main_cst_56 : Ref sig .tc := ⟨.hbm, 368, rfl⟩
abbrev main_call15_v0 : Ref sig .tc := ⟨.hbm, 369, rfl⟩
abbrev main_call15_v1 : Ref sig .tc := ⟨.hbm, 370, rfl⟩
abbrev main_call15_v2 : Ref sig .tc := ⟨.hbm, 371, rfl⟩
abbrev main_call15_v3 : Ref sig .tc := ⟨.hbm, 372, rfl⟩
abbrev main_call15_v4 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_cst_57 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_cst_58 : Ref sig .tc := ⟨.hbm, 391, rfl⟩
abbrev main_v260 : Ref sig .tc := ⟨.hbm, 392, rfl⟩
abbrev main_v261 : Ref sig .tc := ⟨.hbm, 393, rfl⟩
abbrev main_c_59 : Ref sig .tc := ⟨.hbm, 394, rfl⟩
abbrev main_v262 : Ref sig .tc := ⟨.hbm, 395, rfl⟩
abbrev main_v263 : Ref sig .tc := ⟨.hbm, 396, rfl⟩
abbrev main_cst_60 : Ref sig .tc := ⟨.hbm, 397, rfl⟩
abbrev main_v264 : Ref sig .tc := ⟨.hbm, 398, rfl⟩
abbrev main_call16_v0 : Ref sig .tc := ⟨.hbm, 399, rfl⟩
abbrev main_v265 : Ref sig .tc := ⟨.hbm, 400, rfl⟩
abbrev main_cst_61 : Ref sig .tc := ⟨.hbm, 401, rfl⟩
abbrev main_v266 : Ref sig .tc := ⟨.hbm, 402, rfl⟩
abbrev main_call17_v0 : Ref sig .tc := ⟨.hbm, 403, rfl⟩
abbrev main_call17_cst : Ref sig .tc := ⟨.hbm, 404, rfl⟩
abbrev main_call17_v1 : Ref sig .tc := ⟨.hbm, 405, rfl⟩
abbrev main_call17_v2 : Ref sig .tc := ⟨.hbm, 406, rfl⟩
abbrev main_v267 : Ref sig .tc := ⟨.hbm, 407, rfl⟩
abbrev main_cst_62 : Ref sig .tc := ⟨.hbm, 408, rfl⟩
abbrev main_v268 : Ref sig .tc := ⟨.hbm, 409, rfl⟩
abbrev main_v269 : Ref sig .tc := ⟨.hbm, 410, rfl⟩
abbrev main_v270 : Ref sig .tc := ⟨.hbm, 411, rfl⟩
abbrev main_v271 : Ref sig .tc := ⟨.hbm, 412, rfl⟩
abbrev main_call18_v0 : Ref sig .tc := ⟨.hbm, 413, rfl⟩
abbrev main_call18_cst : Ref sig .tc := ⟨.hbm, 414, rfl⟩
abbrev main_call18_v1 : Ref sig .tc := ⟨.hbm, 415, rfl⟩
abbrev main_call18_v2 : Ref sig .tc := ⟨.hbm, 416, rfl⟩
abbrev main_v272 : Ref sig .tc := ⟨.hbm, 417, rfl⟩
abbrev main_cst_63 : Ref sig .tc := ⟨.hbm, 418, rfl⟩
abbrev main_v273 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_v277 : Ref sig .tc := ⟨.hbm, 423, rfl⟩
abbrev main_v278 : Ref sig .tc := ⟨.hbm, 424, rfl⟩
abbrev main_cst_64 : Ref sig .tc := ⟨.hbm, 425, rfl⟩
abbrev main_cst_65 : Ref sig .tc := ⟨.hbm, 426, rfl⟩
abbrev main_call19_v0 : Ref sig .tc := ⟨.hbm, 427, rfl⟩
abbrev main_call19_v1 : Ref sig .tc := ⟨.hbm, 428, rfl⟩
abbrev main_call19_v2 : Ref sig .tc := ⟨.hbm, 429, rfl⟩
abbrev main_call19_v3 : Ref sig .tc := ⟨.hbm, 430, rfl⟩
abbrev main_call19_v4 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_cst_66 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_cst_67 : Ref sig .tc := ⟨.hbm, 449, rfl⟩
abbrev main_v295 : Ref sig .tc := ⟨.hbm, 450, rfl⟩
abbrev main_v296 : Ref sig .tc := ⟨.hbm, 451, rfl⟩
abbrev main_c_68 : Ref sig .tc := ⟨.hbm, 452, rfl⟩
abbrev main_v297 : Ref sig .tc := ⟨.hbm, 453, rfl⟩
abbrev main_v298 : Ref sig .tc := ⟨.hbm, 454, rfl⟩
abbrev main_cst_69 : Ref sig .tc := ⟨.hbm, 455, rfl⟩
abbrev main_v299 : Ref sig .tc := ⟨.hbm, 456, rfl⟩
abbrev main_call20_v0 : Ref sig .tc := ⟨.hbm, 457, rfl⟩
abbrev main_v300 : Ref sig .tc := ⟨.hbm, 458, rfl⟩
abbrev main_v301 : Ref sig .tc := ⟨.hbm, 459, rfl⟩
abbrev main_cst_70 : Ref sig .tc := ⟨.hbm, 460, rfl⟩
abbrev main_v302 : Ref sig .tc := ⟨.hbm, 461, rfl⟩
abbrev main_v303 : Ref sig .tc := ⟨.hbm, 462, rfl⟩
abbrev main_v304 : Ref sig .tc := ⟨.hbm, 463, rfl⟩
abbrev main_cst_71 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_cst_72 : Ref sig .tc := ⟨.hbm, 468, rfl⟩
abbrev main_v308 : Ref sig .tc := ⟨.hbm, 469, rfl⟩
abbrev main_v309 : Ref sig .tc := ⟨.hbm, 470, rfl⟩
abbrev main_cst_73 : Ref sig .tc := ⟨.hbm, 471, rfl⟩
abbrev main_v310 : Ref sig .tc := ⟨.hbm, 472, rfl⟩
abbrev main_v311 : Ref sig .tc := ⟨.hbm, 473, rfl⟩
abbrev main_cst_74 : Ref sig .tc := ⟨.hbm, 474, rfl⟩
abbrev main_v312 : Ref sig .tc := ⟨.hbm, 475, rfl⟩
abbrev main_v313 : Ref sig .tc := ⟨.hbm, 476, rfl⟩
abbrev main_cst_75 : Ref sig .tc := ⟨.hbm, 477, rfl⟩
abbrev main_v314 : Ref sig .tc := ⟨.hbm, 478, rfl⟩
abbrev main_v315 : Ref sig .tc := ⟨.hbm, 479, rfl⟩
abbrev main_v316 : Ref sig .tc := ⟨.hbm, 480, rfl⟩
abbrev main_v317 : Ref sig .tc := ⟨.hbm, 481, rfl⟩
abbrev main_v318 : Ref sig .tc := ⟨.hbm, 482, rfl⟩
abbrev main_cst_76 : Ref sig .tc := ⟨.hbm, 483, rfl⟩
abbrev main_v319 : Ref sig .tc := ⟨.hbm, 484, rfl⟩
abbrev main_v320 : Ref sig .tc := ⟨.hbm, 485, rfl⟩
abbrev main_cst_77 : Ref sig .tc := ⟨.hbm, 486, rfl⟩
abbrev main_v321 : Ref sig .tc := ⟨.hbm, 487, rfl⟩
abbrev main_v322 : Ref sig .tc := ⟨.hbm, 488, rfl⟩
abbrev main_v323 : Ref sig .tc := ⟨.hbm, 489, rfl⟩
abbrev main_v324 : Ref sig .tc := ⟨.hbm, 490, rfl⟩
abbrev main_v325 : Ref sig .tc := ⟨.hbm, 491, rfl⟩
abbrev main_cst_78 : Ref sig .tc := ⟨.hbm, 492, rfl⟩
abbrev main_v326 : Ref sig .tc := ⟨.hbm, 493, rfl⟩
abbrev main_v327 : Ref sig .tc := ⟨.hbm, 494, rfl⟩
abbrev main_cst_79 : Ref sig .tc := ⟨.hbm, 495, rfl⟩
abbrev main_v328 : Ref sig .tc := ⟨.hbm, 496, rfl⟩
abbrev main_v329 : Ref sig .tc := ⟨.hbm, 497, rfl⟩
abbrev main_cst_80 : Ref sig .tc := ⟨.hbm, 498, rfl⟩
abbrev main_v330 : Ref sig .tc := ⟨.hbm, 499, rfl⟩
abbrev main_v331 : Ref sig .tc := ⟨.hbm, 500, rfl⟩
abbrev main_v332 : Ref sig .tc := ⟨.hbm, 501, rfl⟩
abbrev main_v333 : Ref sig .tc := ⟨.hbm, 502, rfl⟩
abbrev main_cst_81 : Ref sig .tc := ⟨.hbm, 503, rfl⟩
abbrev main_v334 : Ref sig .tc := ⟨.hbm, 504, rfl⟩
abbrev main_v335 : Ref sig .tc := ⟨.hbm, 505, rfl⟩
abbrev main_v336 : Ref sig .tc := ⟨.hbm, 506, rfl⟩
abbrev main_v337 : Ref sig .tc := ⟨.hbm, 507, rfl⟩
abbrev main_v338 : Ref sig .tc := ⟨.hbm, 508, rfl⟩
abbrev main_cst_82 : Ref sig .tc := ⟨.hbm, 509, rfl⟩
abbrev main_v339 : Ref sig .tc := ⟨.hbm, 510, rfl⟩
abbrev main_v340 : Ref sig .tc := ⟨.hbm, 511, rfl⟩
abbrev main_v341 : Ref sig .tc := ⟨.hbm, 512, rfl⟩
abbrev main_cst_83 : Ref sig .tc := ⟨.hbm, 513, rfl⟩
abbrev main_v342 : Ref sig .tc := ⟨.hbm, 514, rfl⟩
abbrev main_v343 : Ref sig .tc := ⟨.hbm, 515, rfl⟩
abbrev main_v344 : Ref sig .tc := ⟨.hbm, 516, rfl⟩
abbrev main_v345 : Ref sig .tc := ⟨.hbm, 517, rfl⟩
abbrev main_v346 : Ref sig .tc := ⟨.hbm, 518, rfl⟩
abbrev main_cst_84 : Ref sig .tc := ⟨.hbm, 519, rfl⟩
abbrev main_v347 : Ref sig .tc := ⟨.hbm, 520, rfl⟩
abbrev main_v348 : Ref sig .tc := ⟨.hbm, 521, rfl⟩
abbrev main_cst_85 : Ref sig .tc := ⟨.hbm, 522, rfl⟩
abbrev main_v349 : Ref sig .tc := ⟨.hbm, 523, rfl⟩
abbrev main_v350 : Ref sig .tc := ⟨.hbm, 524, rfl⟩
abbrev main_cst_86 : Ref sig .tc := ⟨.hbm, 525, rfl⟩
abbrev main_v351 : Ref sig .tc := ⟨.hbm, 526, rfl⟩
abbrev main_v352 : Ref sig .tc := ⟨.hbm, 527, rfl⟩
abbrev main_cst_87 : Ref sig .tc := ⟨.hbm, 528, rfl⟩
abbrev main_v353 : Ref sig .tc := ⟨.hbm, 529, rfl⟩
abbrev main_v354 : Ref sig .tc := ⟨.hbm, 530, rfl⟩
abbrev main_v355 : Ref sig .tc := ⟨.hbm, 531, rfl⟩
abbrev main_v356 : Ref sig .tc := ⟨.hbm, 532, rfl⟩
abbrev main_v357 : Ref sig .tc := ⟨.hbm, 533, rfl⟩
abbrev main_v358 : Ref sig .tc := ⟨.hbm, 534, rfl⟩
abbrev main_v359 : Ref sig .tc := ⟨.hbm, 535, rfl⟩
abbrev main_cst_88 : Ref sig .tc := ⟨.hbm, 536, rfl⟩
abbrev main_v360 : Ref sig .tc := ⟨.hbm, 537, rfl⟩
abbrev main_v361 : Ref sig .tc := ⟨.hbm, 538, rfl⟩
abbrev main_cst_89 : Ref sig .tc := ⟨.hbm, 539, rfl⟩
abbrev main_v362 : Ref sig .tc := ⟨.hbm, 540, rfl⟩
abbrev main_v363 : Ref sig .tc := ⟨.hbm, 541, rfl⟩
abbrev main_v364 : Ref sig .tc := ⟨.hbm, 542, rfl⟩
abbrev main_v365 : Ref sig .tc := ⟨.hbm, 543, rfl⟩
abbrev main_v366 : Ref sig .tc := ⟨.hbm, 544, rfl⟩
abbrev main_v367 : Ref sig .tc := ⟨.hbm, 545, rfl⟩
abbrev main_v368 : Ref sig .tc := ⟨.hbm, 546, rfl⟩
abbrev main_cst_90 : Ref sig .tc := ⟨.hbm, 547, rfl⟩
abbrev main_v369 : Ref sig .tc := ⟨.hbm, 548, rfl⟩
abbrev main_v370 : Ref sig .tc := ⟨.hbm, 549, rfl⟩
abbrev main_cst_91 : Ref sig .tc := ⟨.hbm, 550, rfl⟩
abbrev main_v371 : Ref sig .tc := ⟨.hbm, 551, rfl⟩
abbrev main_v372 : Ref sig .tc := ⟨.hbm, 552, rfl⟩
abbrev main_cst_92 : Ref sig .tc := ⟨.hbm, 553, rfl⟩
abbrev main_v373 : Ref sig .tc := ⟨.hbm, 554, rfl⟩
abbrev main_v374 : Ref sig .tc := ⟨.hbm, 555, rfl⟩
abbrev main_v375 : Ref sig .tc := ⟨.hbm, 556, rfl⟩
abbrev main_v376 : Ref sig .tc := ⟨.hbm, 557, rfl⟩
abbrev main_v377 : Ref sig .tc := ⟨.hbm, 558, rfl⟩
abbrev main_v378 : Ref sig .tc := ⟨.hbm, 559, rfl⟩
abbrev main_cst_93 : Ref sig .tc := ⟨.hbm, 560, rfl⟩
abbrev main_v379 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_cst_94 : Ref sig .tc := ⟨.hbm, 565, rfl⟩
abbrev main_v383 : Ref sig .tc := ⟨.hbm, 566, rfl⟩
abbrev main_call21_v0 : Ref sig .tc := ⟨.hbm, 567, rfl⟩
abbrev main_call21_cst : Ref sig .tc := ⟨.hbm, 568, rfl⟩
abbrev main_call21_v1 : Ref sig .tc := ⟨.hbm, 569, rfl⟩
abbrev main_call21_v2 : Ref sig .tc := ⟨.hbm, 570, rfl⟩
abbrev main_v384 : Ref sig .tc := ⟨.hbm, 571, rfl⟩
abbrev main_cst_95 : Ref sig .tc := ⟨.hbm, 572, rfl⟩
abbrev main_v385 : Ref sig .tc := ⟨.hbm, 573, rfl⟩
abbrev main_v386 : Ref sig .tc := ⟨.hbm, 574, rfl⟩
abbrev main_v387 : Ref sig .tc := ⟨.hbm, 575, rfl⟩
abbrev main_v388 : Ref sig .tc := ⟨.hbm, 576, rfl⟩
abbrev main_v389 : Ref sig .tc := ⟨.hbm, 577, rfl⟩
abbrev main_cst_96 : Ref sig .tc := ⟨.hbm, 578, rfl⟩
abbrev main_cst_97 : Ref sig .tc := ⟨.hbm, 579, rfl⟩
abbrev main_call22_v0 : Ref sig .tc := ⟨.hbm, 580, rfl⟩
abbrev main_call22_v1 : Ref sig .tc := ⟨.hbm, 581, rfl⟩
abbrev main_call22_v2 : Ref sig .tc := ⟨.hbm, 582, rfl⟩
abbrev main_call22_v3 : Ref sig .tc := ⟨.hbm, 583, rfl⟩
abbrev main_call22_v4 : Ref sig .tc := ⟨.hbm, 584, rfl⟩
abbrev main_v390 : Ref sig .tc := ⟨.hbm, 585, rfl⟩
abbrev main_v391 : Ref sig .tc := ⟨.hbm, 586, rfl⟩
abbrev main_v392 : Ref sig .tc := ⟨.hbm, 587, rfl⟩
abbrev main_v393 : Ref sig .tc := ⟨.hbm, 588, rfl⟩
abbrev main_v394 : Ref sig .tc := ⟨.hbm, 589, rfl⟩
abbrev main_cst_98 : Ref sig .tc := ⟨.hbm, 590, rfl⟩
abbrev main_v395 : Ref sig .tc := ⟨.hbm, 591, rfl⟩
abbrev main_v396 : Ref sig .tc := ⟨.hbm, 592, rfl⟩
abbrev main_v397 : Ref sig .tc := ⟨.hbm, 593, rfl⟩
abbrev main_v398 : Ref sig .tc := ⟨.hbm, 594, rfl⟩
abbrev main_v399 : Ref sig .tc := ⟨.hbm, 595, rfl⟩
abbrev main_v400 : Ref sig .tc := ⟨.hbm, 596, rfl⟩
abbrev main_v401 : Ref sig .tc := ⟨.hbm, 597, rfl⟩
abbrev main_v402 : Ref sig .tc := ⟨.hbm, 598, rfl⟩
abbrev main_v403 : Ref sig .tc := ⟨.hbm, 599, rfl⟩
abbrev main_v404 : Ref sig .tc := ⟨.hbm, 600, rfl⟩
abbrev main_v405 : Ref sig .tc := ⟨.hbm, 601, rfl⟩
abbrev main_cst_99 : Ref sig .tc := ⟨.hbm, 602, rfl⟩
abbrev main_v406 : Ref sig .tc := ⟨.hbm, 603, rfl⟩
abbrev main_v407 : Ref sig .tc := ⟨.hbm, 604, rfl⟩
abbrev main_cst_100 : Ref sig .tc := ⟨.hbm, 605, rfl⟩
abbrev main_v408 : Ref sig .tc := ⟨.hbm, 606, rfl⟩
abbrev main_v409 : Ref sig .tc := ⟨.hbm, 607, rfl⟩
abbrev main_cst_101 : Ref sig .tc := ⟨.hbm, 608, rfl⟩
abbrev main_v410 : Ref sig .tc := ⟨.hbm, 609, rfl⟩
abbrev main_call23_v0 : Ref sig .tc := ⟨.hbm, 610, rfl⟩
abbrev main_call23_cst : Ref sig .tc := ⟨.hbm, 611, rfl⟩
abbrev main_call23_v1 : Ref sig .tc := ⟨.hbm, 612, rfl⟩
abbrev main_call23_v2 : Ref sig .tc := ⟨.hbm, 613, rfl⟩
abbrev main_v411 : Ref sig .tc := ⟨.hbm, 614, rfl⟩
abbrev main_cst_102 : Ref sig .tc := ⟨.hbm, 615, rfl⟩
abbrev main_v412 : Ref sig .tc := ⟨.hbm, 616, rfl⟩
abbrev main_v413 : Ref sig .tc := ⟨.hbm, 617, rfl⟩
abbrev main_v414 : Ref sig .tc := ⟨.hbm, 618, rfl⟩
abbrev main_call24_v0 : Ref sig .tc := ⟨.hbm, 619, rfl⟩
abbrev main_call24_cst : Ref sig .tc := ⟨.hbm, 620, rfl⟩
abbrev main_call24_v1 : Ref sig .tc := ⟨.hbm, 621, rfl⟩
abbrev main_call24_v2 : Ref sig .tc := ⟨.hbm, 622, rfl⟩
abbrev main_v415 : Ref sig .tc := ⟨.hbm, 623, rfl⟩
abbrev main_cst_103 : Ref sig .tc := ⟨.hbm, 624, rfl⟩
abbrev main_v416 : Ref sig .tc := ⟨.hbm, 625, rfl⟩
abbrev main_v417 : Ref sig .tc := ⟨.hbm, 626, rfl⟩
abbrev main_v418 : Ref sig .tc := ⟨.hbm, 627, rfl⟩
abbrev main_v419 : Ref sig .tc := ⟨.hbm, 628, rfl⟩
abbrev main_v420 : Ref sig .tc := ⟨.hbm, 629, rfl⟩
abbrev main_v421 : Ref sig .tc := ⟨.hbm, 630, rfl⟩
abbrev main_cst_104 : Ref sig .tc := ⟨.hbm, 631, rfl⟩
abbrev main_cst_105 : Ref sig .tc := ⟨.hbm, 632, rfl⟩
abbrev main_call25_v0 : Ref sig .tc := ⟨.hbm, 633, rfl⟩
abbrev main_call25_v1 : Ref sig .tc := ⟨.hbm, 634, rfl⟩
abbrev main_call25_v2 : Ref sig .tc := ⟨.hbm, 635, rfl⟩
abbrev main_call25_v3 : Ref sig .tc := ⟨.hbm, 636, rfl⟩
abbrev main_call25_v4 : Ref sig .tc := ⟨.hbm, 637, rfl⟩
abbrev main_v422 : Ref sig .tc := ⟨.hbm, 638, rfl⟩
abbrev main_v423 : Ref sig .tc := ⟨.hbm, 639, rfl⟩
abbrev main_v424 : Ref sig .tc := ⟨.hbm, 640, rfl⟩
abbrev main_v425 : Ref sig .tc := ⟨.hbm, 641, rfl⟩
abbrev main_v426 : Ref sig .tc := ⟨.hbm, 642, rfl⟩
abbrev main_cst_106 : Ref sig .tc := ⟨.hbm, 643, rfl⟩
abbrev main_v427 : Ref sig .tc := ⟨.hbm, 644, rfl⟩
abbrev main_v428 : Ref sig .tc := ⟨.hbm, 645, rfl⟩
abbrev main_v429 : Ref sig .tc := ⟨.hbm, 646, rfl⟩
abbrev main_v430 : Ref sig .tc := ⟨.hbm, 647, rfl⟩
abbrev main_v431 : Ref sig .tc := ⟨.hbm, 648, rfl⟩
abbrev main_v432 : Ref sig .tc := ⟨.hbm, 649, rfl⟩
abbrev main_v433 : Ref sig .tc := ⟨.hbm, 650, rfl⟩
abbrev main_v434 : Ref sig .tc := ⟨.hbm, 651, rfl⟩
abbrev main_v435 : Ref sig .tc := ⟨.hbm, 652, rfl⟩
abbrev main_v436 : Ref sig .tc := ⟨.hbm, 653, rfl⟩
abbrev main_v437 : Ref sig .tc := ⟨.hbm, 654, rfl⟩
abbrev main_cst_107 : Ref sig .tc := ⟨.hbm, 655, rfl⟩
abbrev main_v438 : Ref sig .tc := ⟨.hbm, 656, rfl⟩
abbrev main_v439 : Ref sig .tc := ⟨.hbm, 657, rfl⟩
abbrev main_c_108 : Ref sig .tc := ⟨.hbm, 658, rfl⟩
abbrev main_v440 : Ref sig .tc := ⟨.hbm, 659, rfl⟩
abbrev main_v441 : Ref sig .tc := ⟨.hbm, 660, rfl⟩
abbrev main_cst_109 : Ref sig .tc := ⟨.hbm, 661, rfl⟩
abbrev main_v442 : Ref sig .tc := ⟨.hbm, 662, rfl⟩
abbrev main_call26_v0 : Ref sig .tc := ⟨.hbm, 663, rfl⟩
abbrev main_v443 : Ref sig .tc := ⟨.hbm, 664, rfl⟩
abbrev main_cst_110 : Ref sig .tc := ⟨.hbm, 665, rfl⟩
abbrev main_v444 : Ref sig .tc := ⟨.hbm, 666, rfl⟩
abbrev main_call27_v0 : Ref sig .tc := ⟨.hbm, 667, rfl⟩
abbrev main_call27_cst : Ref sig .tc := ⟨.hbm, 668, rfl⟩
abbrev main_call27_v1 : Ref sig .tc := ⟨.hbm, 669, rfl⟩
abbrev main_call27_v2 : Ref sig .tc := ⟨.hbm, 670, rfl⟩
abbrev main_v445 : Ref sig .tc := ⟨.hbm, 671, rfl⟩
abbrev main_cst_111 : Ref sig .tc := ⟨.hbm, 672, rfl⟩
abbrev main_v446 : Ref sig .tc := ⟨.hbm, 673, rfl⟩
abbrev main_v447 : Ref sig .tc := ⟨.hbm, 674, rfl⟩
abbrev main_v448 : Ref sig .tc := ⟨.hbm, 675, rfl⟩
abbrev main_v449 : Ref sig .tc := ⟨.hbm, 676, rfl⟩
abbrev main_call28_v0 : Ref sig .tc := ⟨.hbm, 677, rfl⟩
abbrev main_call28_cst : Ref sig .tc := ⟨.hbm, 678, rfl⟩
abbrev main_call28_v1 : Ref sig .tc := ⟨.hbm, 679, rfl⟩
abbrev main_call28_v2 : Ref sig .tc := ⟨.hbm, 680, rfl⟩
abbrev main_v450 : Ref sig .tc := ⟨.hbm, 681, rfl⟩
abbrev main_cst_112 : Ref sig .tc := ⟨.hbm, 682, rfl⟩
abbrev main_v451 : Ref sig .tc := ⟨.hbm, 683, rfl⟩
abbrev main_v452 : Ref sig .tc := ⟨.hbm, 684, rfl⟩
abbrev main_v453 : Ref sig .tc := ⟨.hbm, 685, rfl⟩
abbrev main_v454 : Ref sig .tc := ⟨.hbm, 686, rfl⟩
abbrev main_v455 : Ref sig .tc := ⟨.hbm, 687, rfl⟩
abbrev main_v456 : Ref sig .tc := ⟨.hbm, 688, rfl⟩
abbrev main_cst_113 : Ref sig .tc := ⟨.hbm, 689, rfl⟩
abbrev main_cst_114 : Ref sig .tc := ⟨.hbm, 690, rfl⟩
abbrev main_call29_v0 : Ref sig .tc := ⟨.hbm, 691, rfl⟩
abbrev main_call29_v1 : Ref sig .tc := ⟨.hbm, 692, rfl⟩
abbrev main_call29_v2 : Ref sig .tc := ⟨.hbm, 693, rfl⟩
abbrev main_call29_v3 : Ref sig .tc := ⟨.hbm, 694, rfl⟩
abbrev main_call29_v4 : Ref sig .tc := ⟨.hbm, 695, rfl⟩
abbrev main_v457 : Ref sig .tc := ⟨.hbm, 696, rfl⟩
abbrev main_v458 : Ref sig .tc := ⟨.hbm, 697, rfl⟩
abbrev main_v459 : Ref sig .tc := ⟨.hbm, 698, rfl⟩
abbrev main_v460 : Ref sig .tc := ⟨.hbm, 699, rfl⟩
abbrev main_v461 : Ref sig .tc := ⟨.hbm, 700, rfl⟩
abbrev main_cst_115 : Ref sig .tc := ⟨.hbm, 701, rfl⟩
abbrev main_v462 : Ref sig .tc := ⟨.hbm, 702, rfl⟩
abbrev main_v463 : Ref sig .tc := ⟨.hbm, 703, rfl⟩
abbrev main_v464 : Ref sig .tc := ⟨.hbm, 704, rfl⟩
abbrev main_v465 : Ref sig .tc := ⟨.hbm, 705, rfl⟩
abbrev main_v466 : Ref sig .tc := ⟨.hbm, 706, rfl⟩
abbrev main_v467 : Ref sig .tc := ⟨.hbm, 707, rfl⟩
abbrev main_v468 : Ref sig .tc := ⟨.hbm, 708, rfl⟩
abbrev main_v469 : Ref sig .tc := ⟨.hbm, 709, rfl⟩
abbrev main_v470 : Ref sig .tc := ⟨.hbm, 710, rfl⟩
abbrev main_v471 : Ref sig .tc := ⟨.hbm, 711, rfl⟩
abbrev main_v472 : Ref sig .tc := ⟨.hbm, 712, rfl⟩
abbrev main_cst_116 : Ref sig .tc := ⟨.hbm, 713, rfl⟩
abbrev main_v473 : Ref sig .tc := ⟨.hbm, 714, rfl⟩
abbrev main_v474 : Ref sig .tc := ⟨.hbm, 715, rfl⟩
abbrev main_c_117 : Ref sig .tc := ⟨.hbm, 716, rfl⟩
abbrev main_v475 : Ref sig .tc := ⟨.hbm, 717, rfl⟩
abbrev main_v476 : Ref sig .tc := ⟨.hbm, 718, rfl⟩
abbrev main_cst_118 : Ref sig .tc := ⟨.hbm, 719, rfl⟩
abbrev main_v477 : Ref sig .tc := ⟨.hbm, 720, rfl⟩
abbrev main_call30_v0 : Ref sig .tc := ⟨.hbm, 721, rfl⟩
abbrev main_v478 : Ref sig .tc := ⟨.hbm, 722, rfl⟩
abbrev main_cst_119 : Ref sig .tc := ⟨.hbm, 723, rfl⟩
abbrev main_v479 : Ref sig .tc := ⟨.hbm, 724, rfl⟩
abbrev main_call31_v0 : Ref sig .tc := ⟨.hbm, 725, rfl⟩
abbrev main_call31_cst : Ref sig .tc := ⟨.hbm, 726, rfl⟩
abbrev main_call31_v1 : Ref sig .tc := ⟨.hbm, 727, rfl⟩
abbrev main_call31_v2 : Ref sig .tc := ⟨.hbm, 728, rfl⟩
abbrev main_v480 : Ref sig .tc := ⟨.hbm, 729, rfl⟩
abbrev main_cst_120 : Ref sig .tc := ⟨.hbm, 730, rfl⟩
abbrev main_v481 : Ref sig .tc := ⟨.hbm, 731, rfl⟩
abbrev main_v482 : Ref sig .tc := ⟨.hbm, 732, rfl⟩
abbrev main_v483 : Ref sig .tc := ⟨.hbm, 733, rfl⟩
abbrev main_v484 : Ref sig .tc := ⟨.hbm, 734, rfl⟩
abbrev main_call32_v0 : Ref sig .tc := ⟨.hbm, 735, rfl⟩
abbrev main_call32_cst : Ref sig .tc := ⟨.hbm, 736, rfl⟩
abbrev main_call32_v1 : Ref sig .tc := ⟨.hbm, 737, rfl⟩
abbrev main_call32_v2 : Ref sig .tc := ⟨.hbm, 738, rfl⟩
abbrev main_v485 : Ref sig .tc := ⟨.hbm, 739, rfl⟩
abbrev main_cst_121 : Ref sig .tc := ⟨.hbm, 740, rfl⟩
abbrev main_v486 : Ref sig .tc := ⟨.hbm, 741, rfl⟩
abbrev main_v487 : Ref sig .tc := ⟨.hbm, 742, rfl⟩
abbrev main_v488 : Ref sig .tc := ⟨.hbm, 743, rfl⟩
abbrev main_v489 : Ref sig .tc := ⟨.hbm, 744, rfl⟩
abbrev main_v490 : Ref sig .tc := ⟨.hbm, 745, rfl⟩
abbrev main_v491 : Ref sig .tc := ⟨.hbm, 746, rfl⟩
abbrev main_cst_122 : Ref sig .tc := ⟨.hbm, 747, rfl⟩
abbrev main_cst_123 : Ref sig .tc := ⟨.hbm, 748, rfl⟩
abbrev main_call33_v0 : Ref sig .tc := ⟨.hbm, 749, rfl⟩
abbrev main_call33_v1 : Ref sig .tc := ⟨.hbm, 750, rfl⟩
abbrev main_call33_v2 : Ref sig .tc := ⟨.hbm, 751, rfl⟩
abbrev main_call33_v3 : Ref sig .tc := ⟨.hbm, 752, rfl⟩
abbrev main_call33_v4 : Ref sig .tc := ⟨.hbm, 753, rfl⟩
abbrev main_v492 : Ref sig .tc := ⟨.hbm, 754, rfl⟩
abbrev main_v493 : Ref sig .tc := ⟨.hbm, 755, rfl⟩
abbrev main_v494 : Ref sig .tc := ⟨.hbm, 756, rfl⟩
abbrev main_v495 : Ref sig .tc := ⟨.hbm, 757, rfl⟩
abbrev main_v496 : Ref sig .tc := ⟨.hbm, 758, rfl⟩
abbrev main_cst_124 : Ref sig .tc := ⟨.hbm, 759, rfl⟩
abbrev main_v497 : Ref sig .tc := ⟨.hbm, 760, rfl⟩
abbrev main_v498 : Ref sig .tc := ⟨.hbm, 761, rfl⟩
abbrev main_v499 : Ref sig .tc := ⟨.hbm, 762, rfl⟩
abbrev main_v500 : Ref sig .tc := ⟨.hbm, 763, rfl⟩
abbrev main_v501 : Ref sig .tc := ⟨.hbm, 764, rfl⟩
abbrev main_v502 : Ref sig .tc := ⟨.hbm, 765, rfl⟩
abbrev main_v503 : Ref sig .tc := ⟨.hbm, 766, rfl⟩
abbrev main_v504 : Ref sig .tc := ⟨.hbm, 767, rfl⟩
abbrev main_v505 : Ref sig .tc := ⟨.hbm, 768, rfl⟩
abbrev main_v506 : Ref sig .tc := ⟨.hbm, 769, rfl⟩
abbrev main_v507 : Ref sig .tc := ⟨.hbm, 770, rfl⟩
abbrev main_cst_125 : Ref sig .tc := ⟨.hbm, 771, rfl⟩
abbrev main_v508 : Ref sig .tc := ⟨.hbm, 772, rfl⟩
abbrev main_v509 : Ref sig .tc := ⟨.hbm, 773, rfl⟩
abbrev main_c_126 : Ref sig .tc := ⟨.hbm, 774, rfl⟩
abbrev main_v510 : Ref sig .tc := ⟨.hbm, 775, rfl⟩
abbrev main_v511 : Ref sig .tc := ⟨.hbm, 776, rfl⟩
abbrev main_cst_127 : Ref sig .tc := ⟨.hbm, 777, rfl⟩
abbrev main_v512 : Ref sig .tc := ⟨.hbm, 778, rfl⟩
abbrev main_call34_v0 : Ref sig .tc := ⟨.hbm, 779, rfl⟩
abbrev main_v513 : Ref sig .tc := ⟨.hbm, 780, rfl⟩
abbrev main_v514 : Ref sig .tc := ⟨.hbm, 781, rfl⟩
abbrev main_cst_128 : Ref sig .tc := ⟨.hbm, 782, rfl⟩
abbrev main_v515 : Ref sig .tc := ⟨.hbm, 783, rfl⟩
abbrev main_v516 : Ref sig .tc := ⟨.hbm, 784, rfl⟩
abbrev main_v517 : Ref sig .tc := ⟨.hbm, 785, rfl⟩
abbrev main_cst_129 : Ref sig .tc := ⟨.hbm, 786, rfl⟩
abbrev main_v518 : Ref sig .tc := ⟨.hbm, 787, rfl⟩
abbrev main_v519 : Ref sig .tc := ⟨.hbm, 788, rfl⟩
abbrev main_v520 : Ref sig .tc := ⟨.hbm, 789, rfl⟩
abbrev main_cst_130 : Ref sig .tc := ⟨.hbm, 790, rfl⟩
abbrev main_v521 : Ref sig .tc := ⟨.hbm, 791, rfl⟩
abbrev main_v522 : Ref sig .tc := ⟨.hbm, 792, rfl⟩
abbrev main_cst_131 : Ref sig .tc := ⟨.hbm, 793, rfl⟩
abbrev main_v523 : Ref sig .tc := ⟨.hbm, 794, rfl⟩
abbrev main_v524 : Ref sig .tc := ⟨.hbm, 795, rfl⟩
abbrev main_cst_132 : Ref sig .tc := ⟨.hbm, 796, rfl⟩
abbrev main_v525 : Ref sig .tc := ⟨.hbm, 797, rfl⟩
abbrev main_v526 : Ref sig .tc := ⟨.hbm, 798, rfl⟩
abbrev main_cst_133 : Ref sig .tc := ⟨.hbm, 799, rfl⟩
abbrev main_v527 : Ref sig .tc := ⟨.hbm, 800, rfl⟩
abbrev main_v528 : Ref sig .tc := ⟨.hbm, 801, rfl⟩
abbrev main_v529 : Ref sig .tc := ⟨.hbm, 802, rfl⟩
abbrev main_v530 : Ref sig .tc := ⟨.hbm, 803, rfl⟩
abbrev main_v531 : Ref sig .tc := ⟨.hbm, 804, rfl⟩
abbrev main_cst_134 : Ref sig .tc := ⟨.hbm, 805, rfl⟩
abbrev main_v532 : Ref sig .tc := ⟨.hbm, 806, rfl⟩
abbrev main_v533 : Ref sig .tc := ⟨.hbm, 807, rfl⟩
abbrev main_cst_135 : Ref sig .tc := ⟨.hbm, 808, rfl⟩
abbrev main_v534 : Ref sig .tc := ⟨.hbm, 809, rfl⟩
abbrev main_v535 : Ref sig .tc := ⟨.hbm, 810, rfl⟩
abbrev main_v536 : Ref sig .tc := ⟨.hbm, 811, rfl⟩
abbrev main_v537 : Ref sig .tc := ⟨.hbm, 812, rfl⟩
abbrev main_v538 : Ref sig .tc := ⟨.hbm, 813, rfl⟩
abbrev main_cst_136 : Ref sig .tc := ⟨.hbm, 814, rfl⟩
abbrev main_v539 : Ref sig .tc := ⟨.hbm, 815, rfl⟩
abbrev main_v540 : Ref sig .tc := ⟨.hbm, 816, rfl⟩
abbrev main_cst_137 : Ref sig .tc := ⟨.hbm, 817, rfl⟩
abbrev main_v541 : Ref sig .tc := ⟨.hbm, 818, rfl⟩
abbrev main_v542 : Ref sig .tc := ⟨.hbm, 819, rfl⟩
abbrev main_cst_138 : Ref sig .tc := ⟨.hbm, 820, rfl⟩
abbrev main_v543 : Ref sig .tc := ⟨.hbm, 821, rfl⟩
abbrev main_v544 : Ref sig .tc := ⟨.hbm, 822, rfl⟩
abbrev main_v545 : Ref sig .tc := ⟨.hbm, 823, rfl⟩
abbrev main_v546 : Ref sig .tc := ⟨.hbm, 824, rfl⟩
abbrev main_cst_139 : Ref sig .tc := ⟨.hbm, 825, rfl⟩
abbrev main_v547 : Ref sig .tc := ⟨.hbm, 826, rfl⟩
abbrev main_v548 : Ref sig .tc := ⟨.hbm, 827, rfl⟩
abbrev main_v549 : Ref sig .tc := ⟨.hbm, 828, rfl⟩
abbrev main_v550 : Ref sig .tc := ⟨.hbm, 829, rfl⟩
abbrev main_v551 : Ref sig .tc := ⟨.hbm, 830, rfl⟩
abbrev main_cst_140 : Ref sig .tc := ⟨.hbm, 831, rfl⟩
abbrev main_v552 : Ref sig .tc := ⟨.hbm, 832, rfl⟩
abbrev main_v553 : Ref sig .tc := ⟨.hbm, 833, rfl⟩
abbrev main_v554 : Ref sig .tc := ⟨.hbm, 834, rfl⟩
abbrev main_cst_141 : Ref sig .tc := ⟨.hbm, 835, rfl⟩
abbrev main_v555 : Ref sig .tc := ⟨.hbm, 836, rfl⟩
abbrev main_v556 : Ref sig .tc := ⟨.hbm, 837, rfl⟩
abbrev main_v557 : Ref sig .tc := ⟨.hbm, 838, rfl⟩
abbrev main_v558 : Ref sig .tc := ⟨.hbm, 839, rfl⟩
abbrev main_v559 : Ref sig .tc := ⟨.hbm, 840, rfl⟩
abbrev main_cst_142 : Ref sig .tc := ⟨.hbm, 841, rfl⟩
abbrev main_v560 : Ref sig .tc := ⟨.hbm, 842, rfl⟩
abbrev main_v561 : Ref sig .tc := ⟨.hbm, 843, rfl⟩
abbrev main_cst_143 : Ref sig .tc := ⟨.hbm, 844, rfl⟩
abbrev main_v562 : Ref sig .tc := ⟨.hbm, 845, rfl⟩
abbrev main_v563 : Ref sig .tc := ⟨.hbm, 846, rfl⟩
abbrev main_cst_144 : Ref sig .tc := ⟨.hbm, 847, rfl⟩
abbrev main_v564 : Ref sig .tc := ⟨.hbm, 848, rfl⟩
abbrev main_v565 : Ref sig .tc := ⟨.hbm, 849, rfl⟩
abbrev main_cst_145 : Ref sig .tc := ⟨.hbm, 850, rfl⟩
abbrev main_v566 : Ref sig .tc := ⟨.hbm, 851, rfl⟩
abbrev main_v567 : Ref sig .tc := ⟨.hbm, 852, rfl⟩
abbrev main_v568 : Ref sig .tc := ⟨.hbm, 853, rfl⟩
abbrev main_v569 : Ref sig .tc := ⟨.hbm, 854, rfl⟩
abbrev main_v570 : Ref sig .tc := ⟨.hbm, 855, rfl⟩
abbrev main_v571 : Ref sig .tc := ⟨.hbm, 856, rfl⟩
abbrev main_v572 : Ref sig .tc := ⟨.hbm, 857, rfl⟩
abbrev main_cst_146 : Ref sig .tc := ⟨.hbm, 858, rfl⟩
abbrev main_v573 : Ref sig .tc := ⟨.hbm, 859, rfl⟩
abbrev main_v574 : Ref sig .tc := ⟨.hbm, 860, rfl⟩
abbrev main_cst_147 : Ref sig .tc := ⟨.hbm, 861, rfl⟩
abbrev main_v575 : Ref sig .tc := ⟨.hbm, 862, rfl⟩
abbrev main_v576 : Ref sig .tc := ⟨.hbm, 863, rfl⟩
abbrev main_v577 : Ref sig .tc := ⟨.hbm, 864, rfl⟩
abbrev main_v578 : Ref sig .tc := ⟨.hbm, 865, rfl⟩
abbrev main_v579 : Ref sig .tc := ⟨.hbm, 866, rfl⟩
abbrev main_v580 : Ref sig .tc := ⟨.hbm, 867, rfl⟩
abbrev main_v581 : Ref sig .tc := ⟨.hbm, 868, rfl⟩
abbrev main_cst_148 : Ref sig .tc := ⟨.hbm, 869, rfl⟩
abbrev main_v582 : Ref sig .tc := ⟨.hbm, 870, rfl⟩
abbrev main_v583 : Ref sig .tc := ⟨.hbm, 871, rfl⟩
abbrev main_cst_149 : Ref sig .tc := ⟨.hbm, 872, rfl⟩
abbrev main_v584 : Ref sig .tc := ⟨.hbm, 873, rfl⟩
abbrev main_v585 : Ref sig .tc := ⟨.hbm, 874, rfl⟩
abbrev main_cst_150 : Ref sig .tc := ⟨.hbm, 875, rfl⟩
abbrev main_v586 : Ref sig .tc := ⟨.hbm, 876, rfl⟩
abbrev main_v587 : Ref sig .tc := ⟨.hbm, 877, rfl⟩
abbrev main_v588 : Ref sig .tc := ⟨.hbm, 878, rfl⟩
abbrev main_v589 : Ref sig .tc := ⟨.hbm, 879, rfl⟩
abbrev main_v590 : Ref sig .tc := ⟨.hbm, 880, rfl⟩
abbrev main_v591 : Ref sig .tc := ⟨.hbm, 881, rfl⟩
abbrev main_cst_151 : Ref sig .tc := ⟨.hbm, 882, rfl⟩
abbrev main_v592 : Ref sig .tc := ⟨.hbm, 883, rfl⟩
abbrev main_v593 : Ref sig .tc := ⟨.hbm, 884, rfl⟩
abbrev main_v594 : Ref sig .tc := ⟨.hbm, 885, rfl⟩
abbrev main_v595 : Ref sig .tc := ⟨.hbm, 886, rfl⟩
abbrev main_v596 : Ref sig .tc := ⟨.hbm, 887, rfl⟩
abbrev main_v597 : Ref sig .tc := ⟨.hbm, 888, rfl⟩
abbrev main_cst_152 : Ref sig .tc := ⟨.hbm, 889, rfl⟩
abbrev main_v598 : Ref sig .tc := ⟨.hbm, 890, rfl⟩
abbrev main_v599 : Ref sig .tc := ⟨.hbm, 891, rfl⟩
abbrev main_v600 : Ref sig .tc := ⟨.hbm, 892, rfl⟩
abbrev main_cst_153 : Ref sig .tc := ⟨.hbm, 893, rfl⟩
abbrev main_v601 : Ref sig .tc := ⟨.hbm, 894, rfl⟩
abbrev main_v602 : Ref sig .tc := ⟨.hbm, 895, rfl⟩
abbrev main_v603 : Ref sig .tc := ⟨.hbm, 896, rfl⟩
abbrev main_cst_154 : Ref sig .tc := ⟨.hbm, 897, rfl⟩
abbrev main_v604 : Ref sig .tc := ⟨.hbm, 898, rfl⟩
abbrev main_v605 : Ref sig .tc := ⟨.hbm, 899, rfl⟩
abbrev main_cst_155 : Ref sig .tc := ⟨.hbm, 900, rfl⟩
abbrev main_v606 : Ref sig .tc := ⟨.hbm, 901, rfl⟩
abbrev main_v607 : Ref sig .tc := ⟨.hbm, 902, rfl⟩
abbrev main_cst_156 : Ref sig .tc := ⟨.hbm, 903, rfl⟩
abbrev main_v608 : Ref sig .tc := ⟨.hbm, 904, rfl⟩
abbrev main_v609 : Ref sig .tc := ⟨.hbm, 905, rfl⟩
abbrev main_cst_157 : Ref sig .tc := ⟨.hbm, 906, rfl⟩
abbrev main_v610 : Ref sig .tc := ⟨.hbm, 907, rfl⟩
abbrev main_v611 : Ref sig .tc := ⟨.hbm, 908, rfl⟩
abbrev main_v612 : Ref sig .tc := ⟨.hbm, 909, rfl⟩
abbrev main_v613 : Ref sig .tc := ⟨.hbm, 910, rfl⟩
abbrev main_v614 : Ref sig .tc := ⟨.hbm, 911, rfl⟩
abbrev main_cst_158 : Ref sig .tc := ⟨.hbm, 912, rfl⟩
abbrev main_v615 : Ref sig .tc := ⟨.hbm, 913, rfl⟩
abbrev main_v616 : Ref sig .tc := ⟨.hbm, 914, rfl⟩
abbrev main_cst_159 : Ref sig .tc := ⟨.hbm, 915, rfl⟩
abbrev main_v617 : Ref sig .tc := ⟨.hbm, 916, rfl⟩
abbrev main_v618 : Ref sig .tc := ⟨.hbm, 917, rfl⟩
abbrev main_v619 : Ref sig .tc := ⟨.hbm, 918, rfl⟩
abbrev main_v620 : Ref sig .tc := ⟨.hbm, 919, rfl⟩
abbrev main_v621 : Ref sig .tc := ⟨.hbm, 920, rfl⟩
abbrev main_cst_160 : Ref sig .tc := ⟨.hbm, 921, rfl⟩
abbrev main_v622 : Ref sig .tc := ⟨.hbm, 922, rfl⟩
abbrev main_v623 : Ref sig .tc := ⟨.hbm, 923, rfl⟩
abbrev main_cst_161 : Ref sig .tc := ⟨.hbm, 924, rfl⟩
abbrev main_v624 : Ref sig .tc := ⟨.hbm, 925, rfl⟩
abbrev main_v625 : Ref sig .tc := ⟨.hbm, 926, rfl⟩
abbrev main_cst_162 : Ref sig .tc := ⟨.hbm, 927, rfl⟩
abbrev main_v626 : Ref sig .tc := ⟨.hbm, 928, rfl⟩
abbrev main_v627 : Ref sig .tc := ⟨.hbm, 929, rfl⟩
abbrev main_v628 : Ref sig .tc := ⟨.hbm, 930, rfl⟩
abbrev main_v629 : Ref sig .tc := ⟨.hbm, 931, rfl⟩
abbrev main_cst_163 : Ref sig .tc := ⟨.hbm, 932, rfl⟩
abbrev main_v630 : Ref sig .tc := ⟨.hbm, 933, rfl⟩
abbrev main_v631 : Ref sig .tc := ⟨.hbm, 934, rfl⟩
abbrev main_v632 : Ref sig .tc := ⟨.hbm, 935, rfl⟩
abbrev main_v633 : Ref sig .tc := ⟨.hbm, 936, rfl⟩
abbrev main_cst_164 : Ref sig .tc := ⟨.hbm, 937, rfl⟩
abbrev main_v634 : Ref sig .tc := ⟨.hbm, 938, rfl⟩
abbrev main_call35_v0 : Ref sig .tc := ⟨.hbm, 939, rfl⟩
abbrev main_call35_cst : Ref sig .tc := ⟨.hbm, 940, rfl⟩
abbrev main_call35_v1 : Ref sig .tc := ⟨.hbm, 941, rfl⟩
abbrev main_call35_v2 : Ref sig .tc := ⟨.hbm, 942, rfl⟩
abbrev main_v635 : Ref sig .tc := ⟨.hbm, 943, rfl⟩
abbrev main_cst_165 : Ref sig .tc := ⟨.hbm, 944, rfl⟩
abbrev main_v636 : Ref sig .tc := ⟨.hbm, 945, rfl⟩
abbrev main_v637 : Ref sig .tc := ⟨.hbm, 946, rfl⟩
abbrev main_v638 : Ref sig .tc := ⟨.hbm, 947, rfl⟩
abbrev main_call36_v0 : Ref sig .tc := ⟨.hbm, 948, rfl⟩
abbrev main_call36_cst : Ref sig .tc := ⟨.hbm, 949, rfl⟩
abbrev main_call36_v1 : Ref sig .tc := ⟨.hbm, 950, rfl⟩
abbrev main_call36_v2 : Ref sig .tc := ⟨.hbm, 951, rfl⟩
abbrev main_v639 : Ref sig .tc := ⟨.hbm, 952, rfl⟩
abbrev main_cst_166 : Ref sig .tc := ⟨.hbm, 953, rfl⟩
abbrev main_v640 : Ref sig .tc := ⟨.hbm, 954, rfl⟩
abbrev main_v641 : Ref sig .tc := ⟨.hbm, 955, rfl⟩
abbrev main_v642 : Ref sig .tc := ⟨.hbm, 956, rfl⟩
abbrev main_v643 : Ref sig .tc := ⟨.hbm, 957, rfl⟩
abbrev main_v644 : Ref sig .tc := ⟨.hbm, 958, rfl⟩
abbrev main_v645 : Ref sig .tc := ⟨.hbm, 959, rfl⟩
abbrev main_cst_167 : Ref sig .tc := ⟨.hbm, 960, rfl⟩
abbrev main_cst_168 : Ref sig .tc := ⟨.hbm, 961, rfl⟩
abbrev main_call37_v0 : Ref sig .tc := ⟨.hbm, 962, rfl⟩
abbrev main_call37_v1 : Ref sig .tc := ⟨.hbm, 963, rfl⟩
abbrev main_call37_v2 : Ref sig .tc := ⟨.hbm, 964, rfl⟩
abbrev main_call37_v3 : Ref sig .tc := ⟨.hbm, 965, rfl⟩
abbrev main_call37_v4 : Ref sig .tc := ⟨.hbm, 966, rfl⟩
abbrev main_v646 : Ref sig .tc := ⟨.hbm, 967, rfl⟩
abbrev main_v647 : Ref sig .tc := ⟨.hbm, 968, rfl⟩
abbrev main_v648 : Ref sig .tc := ⟨.hbm, 969, rfl⟩
abbrev main_v649 : Ref sig .tc := ⟨.hbm, 970, rfl⟩
abbrev main_v650 : Ref sig .tc := ⟨.hbm, 971, rfl⟩
abbrev main_cst_169 : Ref sig .tc := ⟨.hbm, 972, rfl⟩
abbrev main_v651 : Ref sig .tc := ⟨.hbm, 973, rfl⟩
abbrev main_v652 : Ref sig .tc := ⟨.hbm, 974, rfl⟩
abbrev main_v653 : Ref sig .tc := ⟨.hbm, 975, rfl⟩
abbrev main_v654 : Ref sig .tc := ⟨.hbm, 976, rfl⟩
abbrev main_v655 : Ref sig .tc := ⟨.hbm, 977, rfl⟩
abbrev main_v656 : Ref sig .tc := ⟨.hbm, 978, rfl⟩
abbrev main_v657 : Ref sig .tc := ⟨.hbm, 979, rfl⟩
abbrev main_v658 : Ref sig .tc := ⟨.hbm, 980, rfl⟩
abbrev main_v659 : Ref sig .tc := ⟨.hbm, 981, rfl⟩
abbrev main_v660 : Ref sig .tc := ⟨.hbm, 982, rfl⟩
abbrev main_v661 : Ref sig .tc := ⟨.hbm, 983, rfl⟩
abbrev main_cst_170 : Ref sig .tc := ⟨.hbm, 984, rfl⟩
abbrev main_v662 : Ref sig .tc := ⟨.hbm, 985, rfl⟩
abbrev main_v663 : Ref sig .tc := ⟨.hbm, 986, rfl⟩
abbrev main_c_171 : Ref sig .tc := ⟨.hbm, 987, rfl⟩
abbrev main_v664 : Ref sig .tc := ⟨.hbm, 988, rfl⟩
abbrev main_v665 : Ref sig .tc := ⟨.hbm, 989, rfl⟩
abbrev main_cst_172 : Ref sig .tc := ⟨.hbm, 990, rfl⟩
abbrev main_v666 : Ref sig .tc := ⟨.hbm, 991, rfl⟩
abbrev main_call38_v0 : Ref sig .tc := ⟨.hbm, 992, rfl⟩
abbrev main_v667 : Ref sig .tc := ⟨.hbm, 993, rfl⟩
abbrev main_v668 : Ref sig .tc := ⟨.hbm, 994, rfl⟩
abbrev main_cst_173 : Ref sig .tc := ⟨.hbm, 995, rfl⟩
abbrev main_v669 : Ref sig .tc := ⟨.hbm, 996, rfl⟩
abbrev main_v670 : Ref sig .tc := ⟨.hbm, 997, rfl⟩
abbrev main_v671 : Ref sig .tc := ⟨.hbm, 998, rfl⟩
abbrev main_cst_174 : Ref sig .tc := ⟨.hbm, 999, rfl⟩
abbrev main_v672 : Ref sig .tc := ⟨.hbm, 1000, rfl⟩
abbrev main_v673 : Ref sig .tc := ⟨.hbm, 1001, rfl⟩
abbrev main_v674 : Ref sig .tc := ⟨.hbm, 1002, rfl⟩
abbrev main_cst_175 : Ref sig .tc := ⟨.hbm, 1003, rfl⟩
abbrev main_v675 : Ref sig .tc := ⟨.hbm, 1004, rfl⟩
abbrev main_v676 : Ref sig .tc := ⟨.hbm, 1005, rfl⟩
abbrev main_cst_176 : Ref sig .tc := ⟨.hbm, 1006, rfl⟩
abbrev main_v677 : Ref sig .tc := ⟨.hbm, 1007, rfl⟩
abbrev main_v678 : Ref sig .tc := ⟨.hbm, 1008, rfl⟩
abbrev main_cst_177 : Ref sig .tc := ⟨.hbm, 1009, rfl⟩
abbrev main_v679 : Ref sig .tc := ⟨.hbm, 1010, rfl⟩
abbrev main_v680 : Ref sig .tc := ⟨.hbm, 1011, rfl⟩
abbrev main_cst_178 : Ref sig .tc := ⟨.hbm, 1012, rfl⟩
abbrev main_v681 : Ref sig .tc := ⟨.hbm, 1013, rfl⟩
abbrev main_v682 : Ref sig .tc := ⟨.hbm, 1014, rfl⟩
abbrev main_v683 : Ref sig .tc := ⟨.hbm, 1015, rfl⟩
abbrev main_v684 : Ref sig .tc := ⟨.hbm, 1016, rfl⟩
abbrev main_v685 : Ref sig .tc := ⟨.hbm, 1017, rfl⟩
abbrev main_cst_179 : Ref sig .tc := ⟨.hbm, 1018, rfl⟩
abbrev main_v686 : Ref sig .tc := ⟨.hbm, 1019, rfl⟩
abbrev main_v687 : Ref sig .tc := ⟨.hbm, 1020, rfl⟩
abbrev main_cst_180 : Ref sig .tc := ⟨.hbm, 1021, rfl⟩
abbrev main_v688 : Ref sig .tc := ⟨.hbm, 1022, rfl⟩
abbrev main_v689 : Ref sig .tc := ⟨.hbm, 1023, rfl⟩
abbrev main_v690 : Ref sig .tc := ⟨.hbm, 1024, rfl⟩
abbrev main_v691 : Ref sig .tc := ⟨.hbm, 1025, rfl⟩
abbrev main_v692 : Ref sig .tc := ⟨.hbm, 1026, rfl⟩
abbrev main_cst_181 : Ref sig .tc := ⟨.hbm, 1027, rfl⟩
abbrev main_v693 : Ref sig .tc := ⟨.hbm, 1028, rfl⟩
abbrev main_v694 : Ref sig .tc := ⟨.hbm, 1029, rfl⟩
abbrev main_cst_182 : Ref sig .tc := ⟨.hbm, 1030, rfl⟩
abbrev main_v695 : Ref sig .tc := ⟨.hbm, 1031, rfl⟩
abbrev main_v696 : Ref sig .tc := ⟨.hbm, 1032, rfl⟩
abbrev main_cst_183 : Ref sig .tc := ⟨.hbm, 1033, rfl⟩
abbrev main_v697 : Ref sig .tc := ⟨.hbm, 1034, rfl⟩
abbrev main_v698 : Ref sig .tc := ⟨.hbm, 1035, rfl⟩
abbrev main_v699 : Ref sig .tc := ⟨.hbm, 1036, rfl⟩
abbrev main_v700 : Ref sig .tc := ⟨.hbm, 1037, rfl⟩
abbrev main_cst_184 : Ref sig .tc := ⟨.hbm, 1038, rfl⟩
abbrev main_v701 : Ref sig .tc := ⟨.hbm, 1039, rfl⟩
abbrev main_v702 : Ref sig .tc := ⟨.hbm, 1040, rfl⟩
abbrev main_v703 : Ref sig .tc := ⟨.hbm, 1041, rfl⟩
abbrev main_v704 : Ref sig .tc := ⟨.hbm, 1042, rfl⟩
abbrev main_v705 : Ref sig .tc := ⟨.hbm, 1043, rfl⟩
abbrev main_v706 : Ref sig .tc := ⟨.hbm, 1044, rfl⟩
abbrev main_v707 : Ref sig .tc := ⟨.hbm, 1045, rfl⟩
abbrev main_v708 : Ref sig .tc := ⟨.hbm, 1046, rfl⟩
abbrev main_v709 : Ref sig .tc := ⟨.hbm, 1047, rfl⟩
abbrev main_v710 : Ref sig .tc := ⟨.hbm, 1048, rfl⟩
abbrev main_cst_185 : Ref sig .tc := ⟨.hbm, 1049, rfl⟩
abbrev main_v711 : Ref sig .tc := ⟨.hbm, 1050, rfl⟩
abbrev main_v712 : Ref sig .tc := ⟨.hbm, 1051, rfl⟩
abbrev main_v713 : Ref sig .tc := ⟨.hbm, 1052, rfl⟩
abbrev main_cst_186 : Ref sig .tc := ⟨.hbm, 1053, rfl⟩
abbrev main_v714 : Ref sig .tc := ⟨.hbm, 1054, rfl⟩
abbrev main_v715 : Ref sig .tc := ⟨.hbm, 1055, rfl⟩
abbrev main_v716 : Ref sig .tc := ⟨.hbm, 1056, rfl⟩
abbrev main_cst_187 : Ref sig .tc := ⟨.hbm, 1057, rfl⟩
abbrev main_v717 : Ref sig .tc := ⟨.hbm, 1058, rfl⟩
abbrev main_v718 : Ref sig .tc := ⟨.hbm, 1059, rfl⟩
abbrev main_cst_188 : Ref sig .tc := ⟨.hbm, 1060, rfl⟩
abbrev main_v719 : Ref sig .tc := ⟨.hbm, 1061, rfl⟩
abbrev main_v720 : Ref sig .tc := ⟨.hbm, 1062, rfl⟩
abbrev main_cst_189 : Ref sig .tc := ⟨.hbm, 1063, rfl⟩
abbrev main_v721 : Ref sig .tc := ⟨.hbm, 1064, rfl⟩
abbrev main_v722 : Ref sig .tc := ⟨.hbm, 1065, rfl⟩
abbrev main_cst_190 : Ref sig .tc := ⟨.hbm, 1066, rfl⟩
abbrev main_v723 : Ref sig .tc := ⟨.hbm, 1067, rfl⟩
abbrev main_v724 : Ref sig .tc := ⟨.hbm, 1068, rfl⟩
abbrev main_v725 : Ref sig .tc := ⟨.hbm, 1069, rfl⟩
abbrev main_v726 : Ref sig .tc := ⟨.hbm, 1070, rfl⟩
abbrev main_v727 : Ref sig .tc := ⟨.hbm, 1071, rfl⟩
abbrev main_cst_191 : Ref sig .tc := ⟨.hbm, 1072, rfl⟩
abbrev main_v728 : Ref sig .tc := ⟨.hbm, 1073, rfl⟩
abbrev main_v729 : Ref sig .tc := ⟨.hbm, 1074, rfl⟩
abbrev main_cst_192 : Ref sig .tc := ⟨.hbm, 1075, rfl⟩
abbrev main_v730 : Ref sig .tc := ⟨.hbm, 1076, rfl⟩
abbrev main_v731 : Ref sig .tc := ⟨.hbm, 1077, rfl⟩
abbrev main_v732 : Ref sig .tc := ⟨.hbm, 1078, rfl⟩
abbrev main_v733 : Ref sig .tc := ⟨.hbm, 1079, rfl⟩
abbrev main_v734 : Ref sig .tc := ⟨.hbm, 1080, rfl⟩
abbrev main_cst_193 : Ref sig .tc := ⟨.hbm, 1081, rfl⟩
abbrev main_v735 : Ref sig .tc := ⟨.hbm, 1082, rfl⟩
abbrev main_v736 : Ref sig .tc := ⟨.hbm, 1083, rfl⟩
abbrev main_cst_194 : Ref sig .tc := ⟨.hbm, 1084, rfl⟩
abbrev main_v737 : Ref sig .tc := ⟨.hbm, 1085, rfl⟩
abbrev main_v738 : Ref sig .tc := ⟨.hbm, 1086, rfl⟩
abbrev main_cst_195 : Ref sig .tc := ⟨.hbm, 1087, rfl⟩
abbrev main_v739 : Ref sig .tc := ⟨.hbm, 1088, rfl⟩
abbrev main_v740 : Ref sig .tc := ⟨.hbm, 1089, rfl⟩
abbrev main_v741 : Ref sig .tc := ⟨.hbm, 1090, rfl⟩
abbrev main_v742 : Ref sig .tc := ⟨.hbm, 1091, rfl⟩
abbrev main_cst_196 : Ref sig .tc := ⟨.hbm, 1092, rfl⟩
abbrev main_v743 : Ref sig .tc := ⟨.hbm, 1093, rfl⟩
abbrev main_v744 : Ref sig .tc := ⟨.hbm, 1094, rfl⟩
abbrev main_v745 : Ref sig .tc := ⟨.hbm, 1095, rfl⟩
abbrev main_v746 : Ref sig .tc := ⟨.hbm, 1096, rfl⟩

abbrev nD : Nat := 1
abbrev τ : Topo := Topo.v7x

variable {F : FTy → Type} [FloatOps F]
-- ==== KernelFastCos.lean ====
abbrev S131072x128 : Shape := ⟨2, ![131072, 128]⟩
abbrev S131072 : Shape := ⟨1, ![131072]⟩
abbrev S131072x100 : Shape := ⟨2, ![131072, 100]⟩
abbrev S128 : Shape := ⟨1, ![128]⟩
abbrev S384x256 : Shape := ⟨2, ![384, 256]⟩
abbrev S384x128 : Shape := ⟨2, ![384, 128]⟩
abbrev S3x128 : Shape := ⟨2, ![3, 128]⟩
abbrev S128x100 : Shape := ⟨2, ![128, 100]⟩
abbrev S1x131072 : Shape := ⟨2, ![1, 131072]⟩
abbrev S128x1 : Shape := ⟨2, ![128, 1]⟩
abbrev S128x2048 : Shape := ⟨2, ![128, 2048]⟩
abbrev S128x3 : Shape := ⟨2, ![128, 3]⟩
abbrev S1x128 : Shape := ⟨2, ![1, 128]⟩
abbrev S2048x128 : Shape := ⟨2, ![2048, 128]⟩
abbrev S1x2048 : Shape := ⟨2, ![1, 2048]⟩
abbrev S2048x100 : Shape := ⟨2, ![2048, 100]⟩
abbrev S2048 : Shape := ⟨1, ![2048]⟩
abbrev S256x2048 : Shape := ⟨2, ![256, 2048]⟩
abbrev S384x2048 : Shape := ⟨2, ![384, 2048]⟩
abbrev S3 : Shape := ⟨1, ![3]⟩
abbrev S1x3 : Shape := ⟨2, ![1, 3]⟩
abbrev S1x1 : Shape := ⟨2, ![1, 1]⟩
abbrev S128x128 : Shape := ⟨2, ![128, 128]⟩
abbrev S100x2048 : Shape := ⟨2, ![100, 2048]⟩

abbrev nBuf : Space → Nat
  | .hbm => 34
  | .vmem => 22
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072, .f32⟩
  | .hbm, ⟨3, _⟩ => ⟨S131072, .f32⟩
  | .hbm, ⟨4, _⟩ => ⟨S131072x100, .f32⟩
  | .hbm, ⟨5, _⟩ => ⟨S128, .f32⟩
  | .hbm, ⟨6, _⟩ => ⟨S128, .f32⟩
  | .hbm, ⟨7, _⟩ => ⟨S384x256, .f32⟩
  | .hbm, ⟨8, _⟩ => ⟨S384x128, .f32⟩
  | .hbm, ⟨9, _⟩ => ⟨S3x128, .f32⟩
  | .hbm, ⟨10, _⟩ => ⟨S128x100, .f32⟩
  | .hbm, ⟨11, _⟩ => ⟨S128, .f32⟩
  | .hbm, ⟨12, _⟩ => ⟨S1x131072, .f32⟩
  | .hbm, ⟨13, _⟩ => ⟨S1x131072, .f32⟩
  | .hbm, ⟨14, _⟩ => ⟨S128x1, .f32⟩
  | .hbm, ⟨15, _⟩ => ⟨S128x2048, .f32⟩
  | .hbm, ⟨16, _⟩ => ⟨S128x1, .f32⟩
  | .hbm, ⟨17, _⟩ => ⟨S128x2048, .f32⟩
  | .hbm, ⟨18, _⟩ => ⟨S128x3, .f32⟩
  | .hbm, ⟨19, _⟩ => ⟨S1x128, .f32⟩
  | .hbm, ⟨20, _⟩ => ⟨S128, .f32⟩
  | .hbm, ⟨21, _⟩ => ⟨S128x1, .f32⟩
  | .hbm, ⟨22, _⟩ => ⟨S128x2048, .f32⟩
  | .hbm, ⟨23, _⟩ => ⟨S1x128, .f32⟩
  | .hbm, ⟨24, _⟩ => ⟨S128, .f32⟩
  | .hbm, ⟨25, _⟩ => ⟨S128x1, .f32⟩
  | .hbm, ⟨26, _⟩ => ⟨S128x2048, .f32⟩
  | .hbm, ⟨27, _⟩ => ⟨S1x128, .f32⟩
  | .hbm, ⟨28, _⟩ => ⟨S128, .f32⟩
  | .hbm, ⟨29, _⟩ => ⟨S128x1, .f32⟩
  | .hbm, ⟨30, _⟩ => ⟨S128x2048, .f32⟩
  | .hbm, ⟨31, _⟩ => ⟨S128x1, .f32⟩
  | .hbm, ⟨32, _⟩ => ⟨S128x2048, .f32⟩
  | .hbm, ⟨33, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x100, .f32⟩
  | .local _ .vmem, ⟨9, _⟩ => ⟨S2048x100, .f32⟩
  | .local _ .vmem, ⟨10, _⟩ => ⟨S128x2048, .f32⟩
  | .local _ .vmem, ⟨11, _⟩ => ⟨S128x2048, .f32⟩
  | .local _ .vmem, ⟨12, _⟩ => ⟨S384x256, .f32⟩
  | .local _ .vmem, ⟨13, _⟩ => ⟨S384x128, .f32⟩
  | .local _ .vmem, ⟨14, _⟩ => ⟨S128x3, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x100, .f32⟩
  | .local _ .vmem, ⟨19, _⟩ => ⟨S128x2048, .f32⟩
  | .local _ .vmem, ⟨20, _⟩ => ⟨S2048x128, .f32⟩
  | .local _ .vmem, ⟨21, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelFastCosIdeal.lean ====
variable {F : FTy → Type} [FloatOps F] [Named F]
def κ : String → Option EReal := fun
  | "half_ln2" => some ((2⁻¹ * (Real.log 2) : ℝ) : EReal)
  | "inv_ln2" => some (((Real.log 2)⁻¹ : ℝ) : EReal)
  | "min_norm_sq" => some ((89202981441289 / 89202980794122492566142873090593446023921664 : ℝ) : EReal)
  | _ => none
-- ==== Proof.Row.lean ====
/-
  One row of the cell as functions of real numbers, in the reference's own words: the guarded norm, the exponential and
  the logarithmic map at the origin, the projection, the matrix and the pointwise product, and the addition of the ball.
  The reference (HostOps.lean), the mask (Mask.lean) and the kernel (Cell.lean) are all brought to these functions.
-/
module

public import Idealize.ShloMosaic.Lib.Pointwise
public import Idealize.ShloMosaic.Lib.IdealHost
public import Mathlib.Analysis.SpecialFunctions.Log.Basic

@[expose] public section

noncomputable section

namespace Cert.Gru

open Idealize.ShloMosaic

/-! ## The literals -/

/-- The norms' guard, the f32 nearest `1e-15`. -/
def q : ℝ := 9444733 / 2 ^ 73

/-- The ball's radius of projection, the f32 nearest `0.996`. -/
def rad : ℝ := 16710107 / 2 ^ 24

/-- The clip of `artanh`'s argument, the f32 nearest `1 - 1e-7`. -/
def hi : ℝ := 8388607 / 2 ^ 23

theorem q_pos : 0 < q := by unfold q; norm_num
theorem q_lt_rad : q < rad := by unfold q rad; norm_num
theorem rad_pos : 0 < rad := by unfold rad; norm_num
theorem hi_pos : 0 < hi := by unfold hi; norm_num
theorem hi_lt : hi < 1 := by unfold hi; norm_num
theorem q_lt_hi : q < hi := by unfold q hi; norm_num

theorem bits_q : Ideal.ofBits .f32 0x26901D7D#32 = ((q : ℝ) : EReal) := by
  unfold q; simp [Ideal.ofBits, Ideal.ieee, -EReal.coe_mul]; norm_num

theorem bits_rad : Ideal.ofBits .f32 0x3F7EF9DB#32 = ((rad : ℝ) : EReal) := by
  unfold rad; simp [Ideal.ofBits, Ideal.ieee, -EReal.coe_mul]; norm_num

theorem bits_hi : Ideal.ofBits .f32 0x3F7FFFFE#32 = ((hi : ℝ) : EReal) := by
  unfold hi; simp [Ideal.ofBits, Ideal.ieee, -EReal.coe_mul]; norm_num

theorem bits_neg_hi : Ideal.ofBits .f32 0xBF7FFFFE#32 = ((-hi : ℝ) : EReal) := by
  unfold hi; simp [Ideal.ofBits, Ideal.ieee, -EReal.coe_mul, -EReal.coe_neg]; norm_num

theorem bits_two : Ideal.ofBits .f32 0x40000000#32 = ((2 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

/-! ## Extended reals that are real -/

theorem one_coe : (1 : EReal) = ((1 : ℝ) : EReal) := rfl
theorem zero_coe : (0 : EReal) = ((0 : ℝ) : EReal) := rfl

theorem sum_coe {n : ℕ} (f : Fin n → ℝ) : (∑ k, ((f k : ℝ) : EReal)) = ((∑ k, f k : ℝ) : EReal) := by
  induction n with
  | zero => rfl
  | succ n ih => rw [Fin.sum_univ_succ, Fin.sum_univ_succ, ih, EReal.coe_add]

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem div_real (a : ℝ) {b : ℝ} (h : b ≠ 0) : Ideal.div (a : EReal) (b : EReal) = ((a / b : ℝ) : EReal) := by
  rw [Ideal.div_coe h, ← EReal.coe_mul, mul_one_div]

theorem sqrt_real {a : ℝ} (h : 0 ≤ a) : Ideal.sqrt (a : EReal) = ((√a : ℝ) : EReal) := by
  rw [Ideal.sqrt_coe, if_neg (not_lt.mpr h)]

theorem rsqrt_real {a : ℝ} (h : 0 < a) : Ideal.rsqrt (a : EReal) = (((√a)⁻¹ : ℝ) : EReal) := by
  rw [Ideal.rsqrt_coe, if_neg (not_lt.mpr h.le), if_neg h.ne']

theorem log_real {a : ℝ} (h : 0 < a) : Ideal.log (a : EReal) = ((Real.log a : ℝ) : EReal) := by
  rw [Ideal.log_coe, if_neg (not_le.mpr h)]

/-! ## The row's functions -/

/-- The inner product of two rows. -/
def dot {n : ℕ} (a b : Fin n → ℝ) : ℝ := ∑ k, a k * b k

/-- The guarded norm. -/
def nrm {n : ℕ} (v : Fin n → ℝ) : ℝ := max (√(dot v v)) q

/-- The clip of `artanh`'s argument. -/
def clp (x : ℝ) : ℝ := min hi (max (-hi) x)

/-- The inverse hyperbolic tangent by logarithms, of the clipped argument. -/
def art (x : ℝ) : ℝ := 1 / 2 * (Real.log (1 + clp x) - Real.log (1 + -clp x))

/-- The exponential map at the origin. -/
def expm {n : ℕ} (u : Fin n → ℝ) (j : Fin n) : ℝ := Real.tanh (nrm u) * u j / nrm u

/-- The projection into the ball. -/
def prj {n : ℕ} (y : Fin n → ℝ) (j : Fin n) : ℝ := if rad < nrm y then y j / nrm y * rad else y j

/-- The product of a matrix, or of a factor at each place, with a point of the ball, given the point's norm `xn` and
    the plain product `m`. -/
def scl {n : ℕ} (xn : ℝ) (m : Fin n → ℝ) (j : Fin n) : ℝ := Real.tanh (nrm m / xn * art xn) * m j / nrm m

/-- The addition of the ball. -/
def add {n : ℕ} (a b : Fin n → ℝ) (j : Fin n) : ℝ :=
  ((1 + 2 * dot a b + dot b b) * a j + (1 - dot a a) * b j) / max (1 + 2 * dot a b + dot a a * dot b b) q

/-- The logarithmic map at the origin. -/
def lgm {n : ℕ} (v : Fin n → ℝ) (j : Fin n) : ℝ := art (nrm v) * v j / nrm v

/-- The logistic function. -/
def lgst (x : ℝ) : ℝ := 1 / (1 + Real.exp (-x))

/-- A row of a matrix times a vector. -/
def mul {n p : ℕ} (W : Fin p → Fin n → ℝ) (x : Fin n → ℝ) (i : Fin p) : ℝ := ∑ k, x k * W i k

theorem dot_self_nonneg {n : ℕ} (v : Fin n → ℝ) : 0 ≤ dot v v := Finset.sum_nonneg fun k _ => mul_self_nonneg (v k)
theorem nrm_pos {n : ℕ} (v : Fin n → ℝ) : 0 < nrm v := lt_of_lt_of_le q_pos (le_max_right _ _)
theorem nrm_ne {n : ℕ} (v : Fin n → ℝ) : nrm v ≠ 0 := (nrm_pos v).ne'
theorem max_q_ne (x : ℝ) : max x q ≠ 0 := (lt_of_lt_of_le q_pos (le_max_right _ _)).ne'

theorem clp_lt (x : ℝ) : clp x < 1 := lt_of_le_of_lt (min_le_left _ _) hi_lt

theorem neg_lt_clp (x : ℝ) : -1 < clp x :=
  lt_min (by linarith [hi_pos]) (lt_of_lt_of_le (by linarith [hi_lt]) (le_max_left _ _))

end Cert.Gru

end
-- ==== Proof.Cell.lean ====
/-
  The cell at one row, over the real numbers: the inputs that reach a row, the quantities that the reference computes
  from them, and the conditions under which the kernel's shortcuts agree with the reference.
-/
module

public import proofs.«01_k».proof.Proof.Row
public import Mathlib.Analysis.SpecialFunctions.Trigonometric.Basic

@[expose] public section

noncomputable section

namespace Cert.Gru

/-- The real inputs that reach one row of the result. -/
structure In where
  /-- the message's row -/
  mi : Fin 128 → ℝ
  /-- the memory's row -/
  mem : Fin 128 → ℝ
  /-- the time -/
  ts : ℝ
  /-- the memory's time -/
  mts : ℝ
  /-- the node's features -/
  h : Fin 100 → ℝ
  /-- the time encoder's weight -/
  tw : Fin 128 → ℝ
  /-- the time encoder's bias -/
  tb : Fin 128 → ℝ
  /-- the weight of the input -/
  wih : Fin 384 → Fin 256 → ℝ
  /-- the weight of the memory -/
  whh : Fin 384 → Fin 128 → ℝ
  /-- the three biases -/
  bias : Fin 3 → Fin 128 → ℝ
  /-- the feature map's weight -/
  nw : Fin 128 → Fin 100 → ℝ
  /-- the feature map's bias -/
  nb : Fin 128 → ℝ

namespace In

variable (a : In)

/-- The time encoding. -/
def u (j : Fin 128) : ℝ := Real.cos ((a.ts - a.mts) * a.tw j + a.tb j)

/-- The time encoding as a point of the ball. -/
def tf : Fin 128 → ℝ := prj (expm a.u)

/-- The cell's input: the message, then the time encoding. -/
def x (k : Fin 256) : ℝ := if h : k.1 < 128 then a.mi ⟨k.1, h⟩ else a.tf ⟨k.1 - 128, by omega⟩

/-- Row `128 p + i` of a weight. -/
def at3 (p : Fin 3) (i : Fin 128) : Fin 384 := ⟨128 * p.1 + i.1, by omega⟩

/-- The `p`-th part of the input's weight. -/
def wi (p : Fin 3) (i : Fin 128) : Fin 256 → ℝ := a.wih (at3 p i)

/-- The `p`-th part of the memory's weight. -/
def wh (p : Fin 3) (i : Fin 128) : Fin 128 → ℝ := a.whh (at3 p i)

/-- The plain product of the `p`-th part of the input's weight with the input. -/
def mx (p : Fin 3) : Fin 128 → ℝ := mul (a.wi p) a.x

/-- The product in the ball of the `p`-th part of the input's weight with the input. -/
def gx (p : Fin 3) : Fin 128 → ℝ := scl (nrm a.x) (a.mx p)

/-- The plain product of the `p`-th part of the memory's weight with `v`. -/
def mh (p : Fin 3) (v : Fin 128 → ℝ) : Fin 128 → ℝ := mul (a.wh p) v

/-- The product in the ball of the `p`-th part of the memory's weight with `v`. -/
def gh (p : Fin 3) (v : Fin 128 → ℝ) : Fin 128 → ℝ := scl (nrm v) (a.mh p v)

/-- The `p`-th transform of `v` and the input. -/
def gate (p : Fin 3) (v : Fin 128 → ℝ) : Fin 128 → ℝ := add (add (a.gh p v) (a.gx p)) (a.bias p)

/-- The update gate. -/
def z (j : Fin 128) : ℝ := lgst (lgm (a.gate 2 a.mem) j)

/-- The reset gate. -/
def r (j : Fin 128) : ℝ := lgst (lgm (a.gate 0 a.mem) j)

/-- The plain product of the reset gate with the memory. -/
def rm (j : Fin 128) : ℝ := a.r j * a.mem j

/-- The memory after the reset. -/
def rh : Fin 128 → ℝ := scl (nrm a.mem) a.rm

/-- The candidate. -/
def cand : Fin 128 → ℝ := a.gate 1 a.rh

/-- The step from the memory to the candidate. -/
def delta : Fin 128 → ℝ := add (fun j => -a.mem j) a.cand

/-- The plain product of the update gate with the step. -/
def zd (j : Fin 128) : ℝ := a.z j * a.delta j

/-- The updated memory. -/
def upd : Fin 128 → ℝ := add a.mem (scl (nrm a.delta) a.zd)

/-- The feature map. -/
def hm (j : Fin 128) : ℝ := mul a.nw a.h j + a.nb j

/-- The result. -/
def out : Fin 128 → ℝ := add a.upd a.hm

/-- The rows whose guarded norms are at least the guard: the time encoding's, those of the five plain products with a
    weight whose norm the kernel does not take again, and those of the two plain products with a gate. -/
structure Idle : Prop where
  u : q ≤ √(dot a.u a.u)
  mx : ∀ p, q ≤ √(dot (a.mx p) (a.mx p))
  mr : q ≤ √(dot (a.mh 0 a.mem) (a.mh 0 a.mem))
  mz : q ≤ √(dot (a.mh 2 a.mem) (a.mh 2 a.mem))
  rm : q ≤ √(dot a.rm a.rm)
  mc : q ≤ √(dot (a.mh 1 a.rh) (a.mh 1 a.rh))
  zd : q ≤ √(dot a.zd a.zd)

end In

end Cert.Gru

end
-- ==== Proof.Shortcut.lean ====
/-
  The kernel's shortcuts over the real numbers: the guarded norm from the guarded square, the inverse hyperbolic tangent
  over its argument by one logarithm, and the squared norms that the kernel takes from a tangent instead of a sum.
-/
module

public import proofs.«01_k».proof.Proof.Cell

@[expose] public section

noncomputable section

namespace Cert.Gru

open Idealize.ShloMosaic

variable {n : ℕ}

/-! ## The guarded norm -/

theorem nrm_sq (f : Fin n → ℝ) : max (dot f f) (q * q) = nrm f ^ 2 := by
  unfold nrm
  have h0 := dot_self_nonneg f
  rcases le_total (√(dot f f)) q with h | h
  · rw [max_eq_right h, max_eq_right, sq]
    calc dot f f = √(dot f f) * √(dot f f) := (Real.mul_self_sqrt h0).symm
      _ ≤ q * q := mul_self_le_mul_self (Real.sqrt_nonneg _) h
  · rw [max_eq_left h, Real.sq_sqrt h0, max_eq_left]
    calc q * q ≤ √(dot f f) * √(dot f f) := mul_self_le_mul_self q_pos.le h
      _ = dot f f := Real.mul_self_sqrt h0

theorem guard_real (f : Fin n → ℝ) :
    max ((∑ k, f k * f k : ℝ) : EReal) ((q * q : ℝ) : EReal) = ((nrm f ^ 2 : ℝ) : EReal) := by
  rw [max_coe, ← nrm_sq]; rfl

theorem rsqrt_sq {a : ℝ} (h : 0 < a) : Ideal.rsqrt ((a ^ 2 : ℝ) : EReal) = ((a⁻¹ : ℝ) : EReal) := by
  rw [rsqrt_real (by positivity), Real.sqrt_sq h.le]

theorem sq_inv {a : ℝ} (h : 0 < a) : a ^ 2 * a⁻¹ = a := by field_simp

theorem nrm_of_idle {f : Fin n → ℝ} (h : q ≤ √(dot f f)) : nrm f ^ 2 = dot f f := by
  rw [nrm, max_eq_left h, Real.sq_sqrt (dot_self_nonneg f)]

theorem nrm_of_dot {f : Fin n → ℝ} {t : ℝ} (ht : 0 ≤ t) (h : dot f f = t * t) : nrm f = max t q := by
  rw [nrm, h, Real.sqrt_mul_self ht]

/-! ## The inverse hyperbolic tangent -/

theorem clp_pos {a : ℝ} (h : 0 < a) : clp a = min a hi := by
  rw [clp, max_eq_right (by linarith [hi_pos]), min_comm]

/-- Twice the inverse hyperbolic tangent, by the logarithm of a quotient. -/
theorem log_quot {a : ℝ} (h : 0 < a) :
    Ideal.log (Ideal.div (1 + min ((a : ℝ) : EReal) ((hi : ℝ) : EReal)) (1 - min ((a : ℝ) : EReal) ((hi : ℝ) : EReal)))
      = ((2 * art a : ℝ) : EReal) := by
  have h1 : 0 < 1 + clp a := by linarith [neg_lt_clp a]
  have h2 : 0 < 1 - clp a := by linarith [clp_lt a]
  rw [min_coe, ← clp_pos h, one_coe, ← EReal.coe_add, ← EReal.coe_sub, div_real _ h2.ne', log_real (div_pos h1 h2),
    Real.log_div h1.ne' h2.ne', art]
  congr 1
  rw [← sub_eq_add_neg]
  ring

theorem aon_mul (i a : ℝ) : 2⁻¹ * Real.log 2 * i * (2 * a * (Real.log 2)⁻¹) = a * i := by
  have : Real.log 2 ≠ 0 := (Real.log_pos one_lt_two).ne'
  field_simp

/-! ## Products with a point of the ball -/

theorem scl_eq (xn : ℝ) (m : Fin n → ℝ) (j : Fin n) :
    Real.tanh (art xn * xn⁻¹ * nrm m) * (nrm m)⁻¹ * m j = scl xn m j := by
  unfold scl
  rw [show nrm m / xn * art xn = art xn * xn⁻¹ * nrm m by ring]
  ring

theorem dot_smul (s : ℝ) (f : Fin n → ℝ) : dot (fun k => s * f k) (fun k => s * f k) = s * s * dot f f := by
  unfold dot
  rw [Finset.mul_sum]
  exact Finset.sum_congr rfl fun k _ => by ring

/-- The squared norm of a product with a point of the ball is the tangent's square, where the guard is idle. -/
theorem dot_scl {m : Fin n → ℝ} (h : q ≤ √(dot m m)) (xn : ℝ) :
    dot (scl xn m) (scl xn m) = Real.tanh (art xn * xn⁻¹ * nrm m) * Real.tanh (art xn * xn⁻¹ * nrm m) := by
  have e : scl xn m = fun k => Real.tanh (art xn * xn⁻¹ * nrm m) * (nrm m)⁻¹ * m k := funext fun k => (scl_eq xn m k).symm
  rw [e, dot_smul, ← nrm_of_idle h]
  have := nrm_ne m
  field_simp

theorem art_nonneg {a : ℝ} (h : 0 < a) : 0 ≤ art a := by
  have h0 : 0 ≤ clp a := by rw [clp_pos h]; exact le_min h.le hi_pos.le
  have h2 : 0 < 1 + -clp a := by linarith [clp_lt a]
  unfold art
  have := Real.log_le_log h2 (show 1 + -clp a ≤ 1 + clp a by linarith)
  linarith

theorem tanh_nonneg {a : ℝ} (h : 0 ≤ a) : 0 ≤ Real.tanh a := by
  rw [Real.tanh_eq_sinh_div_cosh]
  exact div_nonneg (Real.sinh_nonneg_iff.mpr h) (Real.cosh_pos a).le

theorem tanh_pos' {a : ℝ} (h : 0 < a) : 0 < Real.tanh a := by
  rw [Real.tanh_eq_sinh_div_cosh]
  exact div_pos (Real.sinh_pos_iff.mpr h) (Real.cosh_pos a)

theorem nrm_scl {m : Fin n → ℝ} (h : q ≤ √(dot m m)) {xn : ℝ} (hx : 0 < xn) :
    nrm (scl xn m) = max (Real.tanh (art xn * xn⁻¹ * nrm m)) q :=
  nrm_of_dot (tanh_nonneg (mul_nonneg (mul_nonneg (art_nonneg hx) (inv_nonneg.mpr hx.le)) (nrm_pos m).le)) (dot_scl h xn)

/-! ## The addition of the ball -/

theorem add_eq (a b : Fin n → ℝ) (j : Fin n) :
    ((1 + 2 * dot a b + dot b b) * a j + (1 - dot a a) * b j) * (1 / max (1 + 2 * dot a b + dot a a * dot b b) q)
      = add a b j := by
  unfold add; ring

/-! ## The time encoding as a point of the ball -/

theorem dot_expm {u : Fin n → ℝ} (h : q ≤ √(dot u u)) : dot (expm u) (expm u) = Real.tanh (nrm u) * Real.tanh (nrm u) := by
  have e : expm u = fun k => Real.tanh (nrm u) * (nrm u)⁻¹ * u k := funext fun k => by unfold expm; ring
  rw [e, dot_smul, ← nrm_of_idle h]
  have := nrm_ne u
  field_simp

theorem nrm_expm {u : Fin n → ℝ} (h : q ≤ √(dot u u)) : nrm (expm u) = max (Real.tanh (nrm u)) q :=
  nrm_of_dot (tanh_nonneg (nrm_pos u).le) (dot_expm h)

/-- The factor by which the kernel scales the exponential map into the ball. -/
def shrink (t : ℝ) : ℝ := if rad < t then rad / t else 1

theorem rad_lt_max (t : ℝ) : rad < max t q ↔ rad < t := by
  rw [lt_max_iff]
  exact ⟨fun h => h.resolve_right (not_lt.mpr q_lt_rad.le), Or.inl⟩

theorem prj_eq {u : Fin n → ℝ} (h : q ≤ √(dot u u)) (j : Fin n) :
    Real.tanh (nrm u) * (nrm u)⁻¹ * shrink (Real.tanh (nrm u)) * u j = prj (expm u) j := by
  unfold prj shrink
  rw [nrm_expm h]
  simp only [rad_lt_max]
  split_ifs with hr
  · rw [max_eq_left (q_lt_rad.trans hr).le]
    unfold expm
    ring
  · unfold expm
    ring

theorem dot_prj {u : Fin n → ℝ} (h : q ≤ √(dot u u)) :
    dot (prj (expm u)) (prj (expm u)) = min (Real.tanh (nrm u)) rad * min (Real.tanh (nrm u)) rad := by
  have e : prj (expm u) = fun k => Real.tanh (nrm u) * (nrm u)⁻¹ * shrink (Real.tanh (nrm u)) * u k :=
    funext fun k => (prj_eq h k).symm
  have ht := tanh_pos' (nrm_pos u)
  have hn := nrm_ne u
  rw [e, dot_smul, ← nrm_of_idle h]
  unfold shrink
  split_ifs with hr
  · rw [min_eq_right hr.le]
    field_simp
  · rw [min_eq_left (not_lt.mp hr)]
    field_simp

/-! ## The memory -/

theorem lgst_pos (x : ℝ) : 0 < lgst x := by unfold lgst; positivity

theorem lgst_lt (x : ℝ) : lgst x < 1 := by
  unfold lgst
  rw [div_lt_one (by positivity)]
  linarith [Real.exp_pos (-x)]

/-- The memory's guard is idle where the guard of its product with the reset gate is. -/
theorem mem_idle {r m : Fin n → ℝ} (h0 : ∀ k, 0 < r k) (h1 : ∀ k, r k < 1)
    (h : q ≤ √(dot (fun k => r k * m k) (fun k => r k * m k))) : q ≤ √(dot m m) := by
  refine h.trans (Real.sqrt_le_sqrt (Finset.sum_le_sum fun k _ => ?_))
  have hr : r k * r k ≤ 1 := by nlinarith [h0 k, h1 k]
  nlinarith [mul_self_nonneg (m k), mul_le_mul_of_nonneg_right hr (mul_self_nonneg (m k))]

theorem dot_neg (m : Fin n → ℝ) : dot (fun k => -m k) (fun k => -m k) = dot m m :=
  Finset.sum_congr rfl fun k _ => by ring

end Cert.Gru

end
-- ==== Proof.Tile.lean ====
/-
  The kernel's repeated steps on a tile of 128 rows and 2048 columns, each column one row of the result: the guarded
  squared norm, the inverse hyperbolic tangent over its argument, the product with a point of the ball, the addition of
  the ball and the logistic map. Each is read at a column of real entries, where it is the real function of Row.lean.
-/
module

public import proofs.«01_k».proof.Proof.Gen.KernelIdeal.Frame
public import proofs.«01_k».proof.Proof.Shortcut

@[expose] public section

set_option maxRecDepth 16384

noncomputable section

namespace Cert.Gru.Tile

open Idealize.ShloMosaic Cert.KernelIdeal Cert.KernelIdeal.Gen

local notation "Mat" => FVec Ideal S128x2048 FTy.f32
local notation "Lane" => FVec Ideal S1x2048 FTy.f32

/-- Column `c` of a tile is the real vector `f`. -/
def Col {p : ℕ} (v : (⟨2, ![p, 2048]⟩ : Shape).Idx → EReal) (c : Fin 2048) (f : Fin p → ℝ) : Prop :=
  ∀ j : Fin p, v (ix2 j c) = ((f j : ℝ) : EReal)

/-- Entry `c` of a lane vector is the real number `r`. -/
def Ln (v : (⟨2, ![1, 2048]⟩ : Shape).Idx → EReal) (c : Fin 2048) (r : ℝ) : Prop := v (ix2 0 c) = ((r : ℝ) : EReal)

/-! ## The named literals -/

theorem named_q2 : Named.named (F := Ideal) κ "min_norm_sq" (φ := .f32) 0x0DA24260#32 = ((q * q : ℝ) : EReal) := by
  refine (IdealRules.named_const.ideal_named_scalar _ _ _ _ rfl).trans ?_
  unfold q
  congr 1
  norm_num

theorem named_half : Named.named (F := Ideal) κ "half_ln2" (φ := .f32) 0x3EB17218#32 = ((2⁻¹ * Real.log 2 : ℝ) : EReal) :=
  IdealRules.named_const.ideal_named_scalar _ _ _ _ rfl

theorem named_inv : Named.named (F := Ideal) κ "inv_ln2" (φ := .f32) 0x3FB8AA3B#32 = (((Real.log 2)⁻¹ : ℝ) : EReal) :=
  IdealRules.named_const.ideal_named_scalar _ _ _ _ rfl

/-! ## The steps -/

/-- The literal one on every lane. -/
def one : Lane := broadcast S1x2048 (Scalar.ofBits .f32 0x3F800000#32)

/-- The sum over a column of the products of two tiles. -/
def sums (a b : Mat) : Lane :=
  shapeCast S1x2048 (multiReduction .add [0] S2048 (mulf a b) 0x00000000#32 reduces_S128x2048_S2048 (.inl rfl) rfl)
    shapeCasts_S2048_S1x2048

/-- A squared norm, guarded. -/
def guard (s : Lane) : Lane := maximumf s (broadcast S1x2048 (Named.named κ "min_norm_sq" 0x0DA24260#32))

/-- The inverse hyperbolic tangent of `a` times `i`. -/
def aon (a i : Lane) : Lane :=
  mulf (mulf (broadcast S1x2048 (Named.named κ "half_ln2" 0x3EB17218#32)) i)
    (mulf (log (divf (addf one (minimumf a (broadcast S1x2048 (Scalar.ofBits .f32 0x3F7FFFFE#32))))
      (subf one (minimumf a (broadcast S1x2048 (Scalar.ofBits .f32 0x3F7FFFFE#32))))))
      (broadcast S1x2048 (Named.named κ "inv_ln2" 0x3FB8AA3B#32)))

/-- The inverse hyperbolic tangent of a guarded norm over that norm. -/
def aonOf (g : Lane) : Lane := aon (mulf g (rsqrt g)) (rsqrt g)

/-- The norm of a product with a point of the ball. -/
def tOf (x : Lane) (m : Mat) : Lane := tanh (mulf x (mulf (guard (sums m m)) (rsqrt (guard (sums m m)))))

/-- The product with a point of the ball. -/
def vOf (t : Lane) (m : Mat) : Mat :=
  mulf (broadcastTo S128x2048 (mulf t (rsqrt (guard (sums m m)))) broadcasts_S1x2048_S128x2048) m

/-- The addition of the ball, the two squared norms given. -/
def madd (a b : Mat) (x2 y2 : Lane) : Mat :=
  mulf (addf
      (mulf (broadcastTo S128x2048 (addf (addf one (mulf (broadcast S1x2048 (Scalar.ofBits .f32 0x40000000#32)) (sums a b))) y2)
        broadcasts_S1x2048_S128x2048) a)
      (mulf (broadcastTo S128x2048 (subf one x2) broadcasts_S1x2048_S128x2048) b))
    (broadcastTo S128x2048 (divf one (maximumf
      (addf (addf one (mulf (broadcast S1x2048 (Scalar.ofBits .f32 0x40000000#32)) (sums a b))) (mulf x2 y2))
      (broadcast S1x2048 (Scalar.ofBits .f32 0x26901D7D#32)))) broadcasts_S1x2048_S128x2048)

/-- The logistic function of the logarithmic map. -/
def logi (v : Mat) : Mat :=
  logistic (mulf (broadcastTo S128x2048 (aonOf (guard (sums v v))) broadcasts_S1x2048_S128x2048) v)

/-! ## The steps at a column -/

variable {c : Fin 2048} {a b m v : Mat} {f g : Fin 128 → ℝ} {x y t s : Lane} {r r' : ℝ}

theorem sums_col (ha : Col a c f) (hb : Col b c g) : Ln (sums a b) c (dot f g) := by
  unfold Ln
  pointwise [sums]
  simp only [ha _, hb _, ← EReal.coe_mul, sum_coe]
  rfl

theorem guard_col {n : ℕ} {f : Fin n → ℝ} (h : Ln s c (dot f f)) : Ln (guard s) c (nrm f ^ 2) := by
  unfold Ln at h ⊢
  pointwise [guard]
  rw [h, named_q2, max_coe, nrm_sq]

theorem aon_ln (hr : 0 < r) (ha : Ln x c r) (hi : Ln y c r') : Ln (aon x y) c (art r * r') := by
  unfold Ln at ha hi ⊢
  pointwise [aon, one]
  rw [ha, hi, named_half, named_inv, bits_hi, log_quot hr]
  simp only [← EReal.coe_mul, aon_mul]

theorem aonOf_ln (hr : 0 < r) (h : Ln x c (r ^ 2)) : Ln (aonOf x) c (art r * r⁻¹) := by
  have hi : Ln (rsqrt x) c r⁻¹ := by
    unfold Ln at h ⊢
    pointwise
    rw [h, rsqrt_sq hr]
  refine aon_ln hr ?_ hi
  unfold Ln at h hi ⊢
  pointwise at hi ⊢
  rw [h] at hi ⊢
  rw [hi, ← EReal.coe_mul, sq_inv hr]

theorem tOf_ln (hx : Ln x c r) (hm : Col m c f) : Ln (tOf x m) c (Real.tanh (r * nrm f)) := by
  have h := guard_col (sums_col hm hm)
  unfold tOf
  generalize guard (sums m m) = w at h
  unfold Ln at h hx ⊢
  pointwise
  rw [h, hx, rsqrt_sq (nrm_pos f), ← EReal.coe_mul, sq_inv (nrm_pos f), ← EReal.coe_mul, Ideal.tanh_coe]

theorem vOf_col (ht : Ln t c r) (hm : Col m c f) : Col (vOf t m) c (fun j => r * (nrm f)⁻¹ * f j) := by
  have h := guard_col (sums_col hm hm)
  intro j
  unfold vOf
  generalize guard (sums m m) = w at h
  unfold Ln at h ht
  pointwise
  rw [h, ht, rsqrt_sq (nrm_pos f), hm j, ← EReal.coe_mul, ← EReal.coe_mul]

/-- The product with a point of the ball whose norm is `r`. -/
theorem scl_col (hx : Ln x c (art r * r⁻¹)) (hm : Col m c f) : Col (vOf (tOf x m) m) c (scl r f) := fun j =>
  (vOf_col (tOf_ln hx hm) hm j).trans (congrArg _ (scl_eq r f j))

/-- Its squared norm, where the guard is idle. -/
theorem scl_ln (hq : q ≤ √(dot f f)) (hx : Ln x c (art r * r⁻¹)) (hm : Col m c f) :
    Ln (mulf (tOf x m) (tOf x m)) c (dot (scl r f) (scl r f)) := by
  have h := tOf_ln hx hm
  rw [dot_scl hq]
  unfold Ln at h ⊢
  generalize tOf x m = w at h
  pointwise
  rw [h, ← EReal.coe_mul]

theorem madd_col (ha : Col a c f) (hb : Col b c g) (hx : Ln x c (dot f f)) (hy : Ln y c (dot g g)) :
    Col (madd a b x y) c (add f g) := by
  have h := sums_col ha hb
  intro j
  unfold madd
  generalize sums a b = w at h
  unfold Ln at h hx hy
  pointwise [one]
  simp only [h, hx, hy, ha j, hb j, bits_two, bits_q, one_coe, ← EReal.coe_mul, ← EReal.coe_add, ← EReal.coe_sub, max_coe,
    div_real _ (max_q_ne _), add_eq]

theorem logi_col (h : Col v c f) : Col (logi v) c (fun j => lgst (lgm f j)) := by
  have ha := aonOf_ln (nrm_pos f) (guard_col (sums_col h h))
  intro j
  unfold logi
  generalize aonOf (guard (sums v v)) = w at ha
  unfold Ln at ha
  pointwise
  rw [ha, h j, ← EReal.coe_mul, Ideal.logistic, ← EReal.coe_neg, Ideal.exp_coe, one_coe, ← EReal.coe_add,
    div_real _ (by positivity), lgst, lgm, show art (nrm f) * f j / nrm f = art (nrm f) * (nrm f)⁻¹ * f j by ring]

end Cert.Gru.Tile

end
-- ==== Proof.Body.lean ====
/-
  One block's body as a composition of the tile's steps: every value that the body states is one of them.
-/
module

public import proofs.«01_k».proof.Proof.Tile

@[expose] public section

set_option maxRecDepth 16384

noncomputable section

namespace Cert.Gru.Tile

open Idealize.ShloMosaic Cert.KernelIdeal Cert.KernelIdeal.Gen

local notation "Mat" => FVec Ideal S128x2048 FTy.f32
local notation "Lane" => FVec Ideal S1x2048 FTy.f32

/-- The blocks that one grid point reads. -/
structure Blocks where
  x0 : Vec Ideal S2048x128 .f32
  x1 : Vec Ideal S2048x128 .f32
  x2 : Vec Ideal S1x2048 .f32
  x3 : Vec Ideal S1x2048 .f32
  x4 : Vec Ideal S2048x100 .f32
  x5 : Vec Ideal S128x2048 .f32
  x6 : Vec Ideal S128x2048 .f32
  x7 : Vec Ideal S384x256 .f32
  x8 : Vec Ideal S384x128 .f32
  x9 : Vec Ideal S128x3 .f32
  x10 : Vec Ideal S128x2048 .f32
  x11 : Vec Ideal S128x2048 .f32
  x12 : Vec Ideal S128x2048 .f32
  x13 : Vec Ideal S128x100 .f32
  x14 : Vec Ideal S128x2048 .f32

namespace Blocks

variable (B : Blocks)

/-- The message, transposed. -/
def mi : Mat := k0_pay2 (View.ld B.x0 r0_0)

/-- The memory, transposed. -/
def mem : Mat := k0_pay3 (View.ld B.x1 r0_0)

/-- The time encoding as a point of the ball. -/
def tf : Mat := k0_pay8 (View.ld B.x2 r0_1) (View.ld B.x3 r0_1) (View.ld B.x5 r0_2) (View.ld B.x6 r0_2)

/-- Its norm. -/
def tfn : Lane := k0_pay9 (View.ld B.x2 r0_1) (View.ld B.x3 r0_1) (View.ld B.x5 r0_2) (View.ld B.x6 r0_2)

/-- The memory's guarded squared norm. -/
def hss : Lane := guard (sums B.mem B.mem)

/-- The factor of a product with the memory. -/
def ah : Lane := aonOf B.hss

/-- The factor of a product with the input. -/
def ax : Lane := aonOf (guard (addf (sums B.mi B.mi) (mulf B.tfn B.tfn)))

/-- The three plain products with the input, stacked. -/
def mx : FVec Ideal S384x2048 .f32 := k0_pay14 B.mi B.tf (View.ld B.x7 r0_3)

/-- The three plain products with the memory, stacked. -/
def mh : FVec Ideal S384x2048 .f32 := k0_pay15 B.mem (View.ld B.x8 r0_4)

/-- One plain product with the input. -/
def mxR : Mat := k0_pay16 B.mx

/-- Its product's norm in the ball. -/
def txR : Lane := tOf B.ax B.mxR

/-- Its product in the ball. -/
def gxR : Mat := vOf B.txR B.mxR

/-- One plain product with the input. -/
def mxC : Mat := k0_pay21 B.mx

/-- Its product's norm in the ball. -/
def txC : Lane := tOf B.ax B.mxC

/-- Its product in the ball. -/
def gxC : Mat := vOf B.txC B.mxC

/-- One plain product with the input. -/
def mxZ : Mat := k0_pay26 B.mx

/-- Its product's norm in the ball. -/
def txZ : Lane := tOf B.ax B.mxZ

/-- Its product in the ball. -/
def gxZ : Mat := vOf B.txZ B.mxZ

/-- One plain product with the memory. -/
def mhR : Mat := k0_pay31 B.mem (View.ld B.x8 r0_4)

/-- One plain product with the memory. -/
def mhZ : Mat := k0_pay36 B.mh

/-- Its product's norm in the ball. -/
def thR : Lane := tOf B.ah B.mhR

/-- Its product in the ball. -/
def ghR : Mat := vOf B.thR B.mhR

/-- Its product's norm in the ball. -/
def thZ : Lane := tOf B.ah B.mhZ

/-- Its product in the ball. -/
def ghZ : Mat := vOf B.thZ B.mhZ

/-- A bias on every column. -/
def bR : Mat := k0_pay42 (View.ld B.x10 r0_2)

/-- The bias's squared norm. -/
def sR : Lane := broadcastTo S1x2048 (k0_pay43 (View.ld B.x9 r0_5)) broadcasts_S1x1_S1x2048

/-- A bias on every column. -/
def bC : Mat := k0_pay44 (View.ld B.x11 r0_2)

/-- The bias's squared norm. -/
def sC : Lane := broadcastTo S1x2048 (k0_pay45 (View.ld B.x9 r0_5)) broadcasts_S1x1_S1x2048

/-- A bias on every column. -/
def bZ : Mat := k0_pay46 (View.ld B.x12 r0_2)

/-- The bias's squared norm. -/
def sZ : Lane := broadcastTo S1x2048 (k0_pay47 (View.ld B.x9 r0_5)) broadcasts_S1x1_S1x2048

/-- The sum of the two products. -/
def inR : Mat := madd B.ghR B.gxR (mulf B.thR B.thR) (mulf B.txR B.txR)

/-- The transform. -/
def gateR : Mat := madd B.inR B.bR (sums B.inR B.inR) B.sR

/-- The sum of the two products. -/
def inZ : Mat := madd B.ghZ B.gxZ (mulf B.thZ B.thZ) (mulf B.txZ B.txZ)

/-- The transform. -/
def gateZ : Mat := madd B.inZ B.bZ (sums B.inZ B.inZ) B.sZ

/-- The update gate. -/
def z : Mat := logi B.gateZ

/-- The plain product of the reset gate with the memory. -/
def rm : Mat := mulf (logi B.gateR) B.mem

/-- The norm of the memory after the reset. -/
def trh : Lane := tOf B.ah B.rm

/-- The memory after the reset. -/
def rh : Mat := vOf B.trh B.rm

/-- That norm, guarded. -/
def rhn : Lane := maximumf B.trh (broadcast S1x2048 (Scalar.ofBits .f32 0x26901D7D#32))

/-- The factor of a product with the memory after the reset. -/
def arh : Lane := aon B.rhn (divf one B.rhn)

/-- The plain product with the memory after the reset. -/
def mhC : Mat := matmul (φ₁ := .f32) (φ₂ := .f32) dot_S128x128_S128x2048_S128x2048_1_0_0_1_n_n none (View.ld B.x8 r0_6) B.rh (constant S128x2048 .f32 0x00000000#32)

/-- Its product's norm in the ball. -/
def thC : Lane := tOf B.arh B.mhC

/-- Its product in the ball. -/
def ghC : Mat := vOf B.thC B.mhC

/-- The sum of the two products. -/
def inC : Mat := madd B.ghC B.gxC (mulf B.thC B.thC) (mulf B.txC B.txC)

/-- The candidate. -/
def cand : Mat := madd B.inC B.bC (sums B.inC B.inC) B.sC

/-- The memory, negated. -/
def neg : Mat := k0_pay74 B.mem

/-- The step from the memory to the candidate. -/
def delta : Mat := madd B.neg B.cand B.hss (sums B.cand B.cand)

/-- The plain product of the update gate with the step. -/
def zd : Mat := mulf B.z B.delta

/-- Its product's norm in the ball. -/
def tzd : Lane := tOf (aonOf (guard (sums B.delta B.delta))) B.zd

/-- Its product in the ball. -/
def gzd : Mat := vOf B.tzd B.zd

/-- The updated memory. -/
def upd : Mat := madd B.mem B.gzd B.hss (mulf B.tzd B.tzd)

/-- The feature map. -/
def hm : Mat := k0_pay87 (View.ld B.x13 r0_7) (View.ld B.x4 r0_8) (View.ld B.x14 r0_2)

/-- The result, transposed back. -/
def out : FVec Ideal S2048x128 .f32 := transpose S2048x128 [1, 0] (madd B.upd B.hm (sums B.upd B.upd) (sums B.hm B.hm)) transposes_S128x2048_p1_0_S2048x128

theorem pay91_eq : k0_pay91 B.x0 B.x1 B.x2 B.x3 B.x4 B.x5 B.x6 B.x7 B.x8 B.x9 B.x10 B.x11 B.x12 B.x13 B.x14 = B.mem := by
  unfold k0_pay91
  rfl

theorem pay92_eq : k0_pay92 B.x0 B.x1 B.x2 B.x3 B.x4 B.x5 B.x6 B.x7 B.x8 B.x9 B.x10 B.x11 B.x12 B.x13 B.x14 = B.hss := by
  unfold k0_pay92
  rw [pay91_eq]
  rfl

theorem pay93_eq : k0_pay93 B.x0 B.x1 B.x2 B.x3 B.x4 B.x5 B.x6 B.x7 B.x8 B.x9 B.x10 B.x11 B.x12 B.x13 B.x14 = B.ax := by
  unfold k0_pay93
  rfl

theorem pay94_eq : k0_pay94 B.x0 B.x1 B.x2 B.x3 B.x4 B.x5 B.x6 B.x7 B.x8 B.x9 B.x10 B.x11 B.x12 B.x13 B.x14 = B.ah := by
  unfold k0_pay94
  rw [pay91_eq]
  rfl

theorem pay95_eq : k0_pay95 B.x0 B.x1 B.x2 B.x3 B.x4 B.x5 B.x6 B.x7 B.x8 B.x9 B.x10 B.x11 B.x12 B.x13 B.x14 = B.mx := by
  unfold k0_pay95
  rfl

theorem pay96_eq : k0_pay96 B.x0 B.x1 B.x2 B.x3 B.x4 B.x5 B.x6 B.x7 B.x8 B.x9 B.x10 B.x11 B.x12 B.x13 B.x14 = B.mh := by
  unfold k0_pay96
  rw [pay91_eq]
  rfl

theorem pay97_eq : k0_pay97 B.x0 B.x1 B.x2 B.x3 B.x4 B.x5 B.x6 B.x7 B.x8 B.x9 B.x10 B.x11 B.x12 B.x13 B.x14 = B.txR := by
  unfold k0_pay97
  rw [pay93_eq, pay95_eq]
  rfl

theorem pay98_eq : k0_pay98 B.x0 B.x1 B.x2 B.x3 B.x4 B.x5 B.x6 B.x7 B.x8 B.x9 B.x10 B.x11 B.x12 B.x13 B.x14 = B.gxR := by
  unfold k0_pay98
  rw [pay93_eq, pay95_eq]
  rfl

theorem pay99_eq : k0_pay99 B.x0 B.x1 B.x2 B.x3 B.x4 B.x5 B.x6 B.x7 B.x8 B.x9 B.x10 B.x11 B.x12 B.x13 B.x14 = B.txC := by
  unfold k0_pay99
  rw [pay93_eq, pay95_eq]
  rfl

theorem pay100_eq : k0_pay100 B.x0 B.x1 B.x2 B.x3 B.x4 B.x5 B.x6 B.x7 B.x8 B.x9 B.x10 B.x11 B.x12 B.x13 B.x14 = B.gxC := by
  unfold k0_pay100
  rw [pay93_eq, pay95_eq]
  rfl

theorem pay101_eq : k0_pay101 B.x0 B.x1 B.x2 B.x3 B.x4 B.x5 B.x6 B.x7 B.x8 B.x9 B.x10 B.x11 B.x12 B.x13 B.x14 = B.txZ := by
  unfold k0_pay101
  rw [pay93_eq, pay95_eq]
  rfl

theorem pay102_eq : k0_pay102 B.x0 B.x1 B.x2 B.x3 B.x4 B.x5 B.x6 B.x7 B.x8 B.x9 B.x10 B.x11 B.x12 B.x13 B.x14 = B.gxZ := by
  unfold k0_pay102
  rw [pay93_eq, pay95_eq]
  rfl

theorem pay103_eq : k0_pay103 B.x0 B.x1 B.x2 B.x3 B.x4 B.x5 B.x6 B.x7 B.x8 B.x9 B.x10 B.x11 B.x12 B.x13 B.x14 = B.thR := by
  unfold k0_pay103
  rw [pay91_eq, pay94_eq]
  rfl

theorem pay104_eq : k0_pay104 B.x0 B.x1 B.x2 B.x3 B.x4 B.x5 B.x6 B.x7 B.x8 B.x9 B.x10 B.x11 B.x12 B.x13 B.x14 = B.ghR := by
  unfold k0_pay104
  rw [pay91_eq, pay103_eq]
  rfl

theorem pay105_eq : k0_pay105 B.x0 B.x1 B.x2 B.x3 B.x4 B.x5 B.x6 B.x7 B.x8 B.x9 B.x10 B.x11 B.x12 B.x13 B.x14 = B.bR := by
  unfold k0_pay105
  rfl

theorem pay107_eq : k0_pay107 B.x0 B.x1 B.x2 B.x3 B.x4 B.x5 B.x6 B.x7 B.x8 B.x9 B.x10 B.x11 B.x12 B.x13 B.x14 = B.bC := by
  unfold k0_pay107
  rfl

theorem pay109_eq : k0_pay109 B.x0 B.x1 B.x2 B.x3 B.x4 B.x5 B.x6 B.x7 B.x8 B.x9 B.x10 B.x11 B.x12 B.x13 B.x14 = mulf B.thR B.thR := by
  unfold k0_pay109
  rw [pay103_eq]
  rfl

theorem pay110_eq : k0_pay110 B.x0 B.x1 B.x2 B.x3 B.x4 B.x5 B.x6 B.x7 B.x8 B.x9 B.x10 B.x11 B.x12 B.x13 B.x14 = sums B.inR B.inR := by
  unfold k0_pay110
  rw [pay97_eq, pay98_eq, pay104_eq, pay109_eq]
  rfl

theorem pay111_eq : k0_pay111 B.x0 B.x1 B.x2 B.x3 B.x4 B.x5 B.x6 B.x7 B.x8 B.x9 B.x10 B.x11 B.x12 B.x13 B.x14 = sums B.inR B.bR := by
  unfold k0_pay111
  rw [pay97_eq, pay98_eq, pay104_eq, pay105_eq, pay109_eq]
  rfl

theorem pay113_eq : k0_pay113 B.x0 B.x1 B.x2 B.x3 B.x4 B.x5 B.x6 B.x7 B.x8 B.x9 B.x10 B.x11 B.x12 B.x13 B.x14 = B.gateR := by
  unfold k0_pay113 k0_pay112
  rw [pay97_eq, pay98_eq, pay104_eq, pay105_eq, pay109_eq, pay110_eq, pay111_eq]
  rfl

theorem pay114_eq : k0_pay114 B.x0 B.x1 B.x2 B.x3 B.x4 B.x5 B.x6 B.x7 B.x8 B.x9 B.x10 B.x11 B.x12 B.x13 B.x14 = B.z := by
  unfold k0_pay114
  rw [pay94_eq, pay96_eq, pay101_eq, pay102_eq]
  rfl

theorem pay115_eq : k0_pay115 B.x0 B.x1 B.x2 B.x3 B.x4 B.x5 B.x6 B.x7 B.x8 B.x9 B.x10 B.x11 B.x12 B.x13 B.x14 = rsqrt (guard (sums B.gateR B.gateR)) := by
  unfold k0_pay115 k0_pay112
  rw [pay97_eq, pay98_eq, pay104_eq, pay105_eq, pay109_eq, pay110_eq, pay111_eq]
  rfl

theorem pay116_eq : k0_pay116 B.x0 B.x1 B.x2 B.x3 B.x4 B.x5 B.x6 B.x7 B.x8 B.x9 B.x10 B.x11 B.x12 B.x13 B.x14 = minimumf (mulf (guard (sums B.gateR B.gateR)) (rsqrt (guard (sums B.gateR B.gateR)))) (broadcast S1x2048 (Scalar.ofBits .f32 0x3F7FFFFE#32)) := by
  unfold k0_pay116 k0_pay112
  rw [pay97_eq, pay98_eq, pay104_eq, pay105_eq, pay109_eq, pay110_eq, pay111_eq]
  rfl

theorem pay118_eq : k0_pay118 B.x0 B.x1 B.x2 B.x3 B.x4 B.x5 B.x6 B.x7 B.x8 B.x9 B.x10 B.x11 B.x12 B.x13 B.x14 = B.rh := by
  unfold k0_pay118
  rw [pay91_eq, pay94_eq, pay113_eq, pay115_eq, pay116_eq]
  rfl

theorem pay119_eq : k0_pay119 B.x0 B.x1 B.x2 B.x3 B.x4 B.x5 B.x6 B.x7 B.x8 B.x9 B.x10 B.x11 B.x12 B.x13 B.x14 = B.arh := by
  unfold k0_pay119
  rw [pay91_eq, pay94_eq, pay113_eq, pay115_eq, pay116_eq]
  rfl

theorem pay120_eq : k0_pay120 B.x0 B.x1 B.x2 B.x3 B.x4 B.x5 B.x6 B.x7 B.x8 B.x9 B.x10 B.x11 B.x12 B.x13 B.x14 = B.inC := by
  unfold k0_pay120 k0_pay117
  rw [pay99_eq, pay100_eq, pay118_eq, pay119_eq]
  rfl

theorem pay121_eq : k0_pay121 B.x0 B.x1 B.x2 B.x3 B.x4 B.x5 B.x6 B.x7 B.x8 B.x9 B.x10 B.x11 B.x12 B.x13 B.x14 = sums B.inC B.inC := by
  unfold k0_pay121 k0_pay117
  rw [pay99_eq, pay100_eq, pay118_eq, pay119_eq]
  rfl

theorem pay122_eq : k0_pay122 B.x0 B.x1 B.x2 B.x3 B.x4 B.x5 B.x6 B.x7 B.x8 B.x9 B.x10 B.x11 B.x12 B.x13 B.x14 = sums B.inC B.bC := by
  unfold k0_pay122 k0_pay117
  rw [pay99_eq, pay100_eq, pay107_eq, pay118_eq, pay119_eq]
  rfl

theorem pay123_eq : k0_pay123 B.x0 B.x1 B.x2 B.x3 B.x4 B.x5 B.x6 B.x7 B.x8 B.x9 B.x10 B.x11 B.x12 B.x13 B.x14 = sums B.cand B.cand := by
  unfold k0_pay123 k0_pay108
  rw [pay107_eq, pay120_eq, pay121_eq, pay122_eq]
  rfl

theorem pay124_eq : k0_pay124 B.x0 B.x1 B.x2 B.x3 B.x4 B.x5 B.x6 B.x7 B.x8 B.x9 B.x10 B.x11 B.x12 B.x13 B.x14 = sums B.neg B.cand := by
  unfold k0_pay124 k0_pay108
  rw [pay91_eq, pay107_eq, pay120_eq, pay121_eq, pay122_eq]
  rfl

theorem pay126_eq : k0_pay126 B.x0 B.x1 B.x2 B.x3 B.x4 B.x5 B.x6 B.x7 B.x8 B.x9 B.x10 B.x11 B.x12 B.x13 B.x14 = B.gzd := by
  unfold k0_pay126 k0_pay125 k0_pay108
  rw [pay91_eq, pay92_eq, pay107_eq, pay114_eq, pay120_eq, pay121_eq, pay122_eq, pay123_eq, pay124_eq]
  rfl

theorem pay127_eq : k0_pay127 B.x0 B.x1 B.x2 B.x3 B.x4 B.x5 B.x6 B.x7 B.x8 B.x9 B.x10 B.x11 B.x12 B.x13 B.x14 = mulf B.tzd B.tzd := by
  unfold k0_pay127 k0_pay125 k0_pay108
  rw [pay91_eq, pay92_eq, pay107_eq, pay114_eq, pay120_eq, pay121_eq, pay122_eq, pay123_eq, pay124_eq]
  rfl

theorem pay128_eq : k0_pay128 B.x0 B.x1 B.x2 B.x3 B.x4 B.x5 B.x6 B.x7 B.x8 B.x9 B.x10 B.x11 B.x12 B.x13 B.x14 = mulf B.mem B.gzd := by
  unfold k0_pay128 k0_pay125 k0_pay108
  rw [pay91_eq, pay92_eq, pay107_eq, pay114_eq, pay120_eq, pay121_eq, pay122_eq, pay123_eq, pay124_eq]
  rfl

theorem hz : (![0, 0] : Fin 2 → ℕ) = fun _ => 0 := funext fun a => by fin_cases a <;> rfl

/-- What the body leaves in its output block. -/
theorem out_eq : out0_15 B.x0 B.x1 B.x2 B.x3 B.x4 B.x5 B.x6 B.x7 B.x8 B.x9 B.x10 B.x11 B.x12 B.x13 B.x14 = B.out := by
  refine Eq.trans ?_ (View.canon_unit_zero (Val := Elt Ideal) (e := .f32) hz (S := S2048x128) (by decide) B.out)
  unfold out0_15
  rw [pay91_eq, pay92_eq, pay126_eq, pay127_eq, pay128_eq]
  rfl

end Blocks

end Cert.Gru.Tile

end
-- ==== Proof.Column.lean ====
/-
  One column of a block, from the inputs that reach it to the result: every value of Body.lean at that column is the
  real quantity of Cell.lean, given that the row's guards are idle.
-/
module

public import proofs.«01_k».proof.Proof.Body

@[expose] public section

set_option maxRecDepth 16384

noncomputable section

namespace Cert.Gru.Tile

open Idealize.ShloMosaic Cert.KernelIdeal Cert.KernelIdeal.Gen

/-- Column `c` of the blocks holds the inputs of one row. -/
structure Holds (B : Blocks) (c : Fin 2048) (a : In) : Prop where
  mi : ∀ j : Fin 128, B.x0 (ix2 c j) = ((a.mi j : ℝ) : EReal)
  mem : ∀ j : Fin 128, B.x1 (ix2 c j) = ((a.mem j : ℝ) : EReal)
  ts : B.x2 (ix2 0 c) = ((a.ts : ℝ) : EReal)
  mts : B.x3 (ix2 0 c) = ((a.mts : ℝ) : EReal)
  h : ∀ k : Fin 100, B.x4 (ix2 c k) = ((a.h k : ℝ) : EReal)
  tw : ∀ j : Fin 128, B.x5 (ix2 j c) = ((a.tw j : ℝ) : EReal)
  tb : ∀ j : Fin 128, B.x6 (ix2 j c) = ((a.tb j : ℝ) : EReal)
  wih : ∀ (i : Fin 384) (k : Fin 256), B.x7 (ix2 i k) = ((a.wih i k : ℝ) : EReal)
  whh : ∀ (i : Fin 384) (k : Fin 128), B.x8 (ix2 i k) = ((a.whh i k : ℝ) : EReal)
  bias : ∀ (j : Fin 128) (p : Fin 3), B.x9 (ix2 j p) = ((a.bias p j : ℝ) : EReal)
  bR : ∀ j : Fin 128, B.x10 (ix2 j c) = ((a.bias 0 j : ℝ) : EReal)
  bC : ∀ j : Fin 128, B.x11 (ix2 j c) = ((a.bias 1 j : ℝ) : EReal)
  bZ : ∀ j : Fin 128, B.x12 (ix2 j c) = ((a.bias 2 j : ℝ) : EReal)
  nw : ∀ (j : Fin 128) (k : Fin 100), B.x13 (ix2 j k) = ((a.nw j k : ℝ) : EReal)
  nb : ∀ j : Fin 128, B.x14 (ix2 j c) = ((a.nb j : ℝ) : EReal)

variable {B : Blocks} {c : Fin 2048} {a : In}

/-! ## Reading the blocks -/

theorem mi_col (H : Holds B c a) : Col B.mi c a.mi := by
  intro j
  unfold Blocks.mi
  pointwise [k0_pay2]
  exact H.mi j

theorem mem_col (H : Holds B c a) : Col B.mem c a.mem := by
  intro j
  unfold Blocks.mem
  pointwise [k0_pay3]
  exact H.mem j

/-- The angle's cosine. -/
theorem cos_col (H : Holds B c a) :
    Col (k0_pay4 (View.ld B.x2 r0_1) (View.ld B.x3 r0_1) (View.ld B.x5 r0_2) (View.ld B.x6 r0_2)) c a.u := by
  intro j
  pointwise [k0_pay4]
  rw [H.ts, H.mts, H.tw, H.tb]
  simp only [← EReal.coe_sub, ← EReal.coe_mul, ← EReal.coe_add]
  rfl

/-- The cosine's guarded squared norm, and its inverse norm. -/
theorem cos_ln (H : Holds B c a) :
    Ln (k0_pay5 (View.ld B.x2 r0_1) (View.ld B.x3 r0_1) (View.ld B.x5 r0_2) (View.ld B.x6 r0_2)) c (nrm a.u ^ 2) ∧
    Ln (k0_pay6 (View.ld B.x2 r0_1) (View.ld B.x3 r0_1) (View.ld B.x5 r0_2) (View.ld B.x6 r0_2)) c (nrm a.u)⁻¹ := by
  have h5 : Ln (k0_pay5 (View.ld B.x2 r0_1) (View.ld B.x3 r0_1) (View.ld B.x5 r0_2) (View.ld B.x6 r0_2)) c (nrm a.u ^ 2) :=
    guard_col (sums_col (cos_col H) (cos_col H))
  refine ⟨h5, ?_⟩
  unfold k0_pay6
  generalize k0_pay5 (F := Ideal) _ _ _ _ = w at h5
  unfold Ln at h5 ⊢
  pointwise
  rw [h5, rsqrt_sq (nrm_pos _)]

theorem tanh_ln (H : Holds B c a) :
    Ln (k0_pay7 (View.ld B.x2 r0_1) (View.ld B.x3 r0_1) (View.ld B.x5 r0_2) (View.ld B.x6 r0_2)) c (Real.tanh (nrm a.u)) := by
  obtain ⟨h5, h6⟩ := cos_ln H
  unfold k0_pay7
  generalize k0_pay5 (F := Ideal) _ _ _ _ = w at h5
  generalize k0_pay6 (F := Ideal) _ _ _ _ = w' at h6
  unfold Ln at h5 h6 ⊢
  pointwise
  rw [h5, h6, ← EReal.coe_mul, sq_inv (nrm_pos _), Ideal.tanh_coe]

theorem tf_col (H : Holds B c a) (I : a.Idle) : Col B.tf c a.tf := by
  obtain ⟨-, h6⟩ := cos_ln H
  have h7 := tanh_ln H
  have h4 := cos_col H
  intro j
  unfold Blocks.tf k0_pay8
  generalize k0_pay4 (F := Ideal) _ _ _ _ = u at h4
  generalize k0_pay6 (F := Ideal) _ _ _ _ = w at h6
  generalize k0_pay7 (F := Ideal) _ _ _ _ = t at h7
  unfold Ln at h6 h7
  pointwise
  rw [h6, h7, h4 j, bits_rad, div_real _ (tanh_pos' (nrm_pos _)).ne', one_coe]
  simp only [EReal.coe_lt_coe_iff]
  refine Eq.trans ?_ (congrArg _ (prj_eq I.u j))
  rw [shrink]
  split_ifs <;> simp only [← EReal.coe_mul]

theorem tfn_ln (H : Holds B c a) (I : a.Idle) : Ln (mulf B.tfn B.tfn) c (dot a.tf a.tf) := by
  have h7 := tanh_ln H
  unfold Blocks.tfn k0_pay9 In.tf
  generalize k0_pay7 (F := Ideal) _ _ _ _ = t at h7
  unfold Ln at h7 ⊢
  pointwise
  rw [h7, bits_rad, min_coe, ← EReal.coe_mul, dot_prj I.u]

/-! ## The plain products -/

theorem mul_x (i : Fin 384) : mul a.wih a.x i
    = (∑ k : Fin 128, a.wih i ⟨k.1, by omega⟩ * a.mi k) + ∑ k : Fin 128, a.wih i ⟨128 + k.1, by omega⟩ * a.tf k := by
  unfold mul
  refine (Fin.sum_univ_add (a := 128) (b := 128) _).trans ?_
  congr 1 <;> refine Finset.sum_congr rfl fun k _ => ?_
  · rw [mul_comm, In.x, dif_pos (show (Fin.castAdd 128 k).1 < 128 from k.2)]
    rfl
  · rw [mul_comm, In.x, dif_neg (show ¬(Fin.natAdd 128 k).1 < 128 by simp)]
    congr 2
    exact Fin.ext (by simp)

theorem dot_x : dot a.x a.x = dot a.mi a.mi + dot a.tf a.tf := by
  unfold dot
  refine (Fin.sum_univ_add (a := 128) (b := 128) _).trans
    (congrArg₂ (· + ·) (Finset.sum_congr rfl fun k _ => ?_) (Finset.sum_congr rfl fun k _ => ?_))
  · rw [In.x, dif_pos (show (Fin.castAdd 128 k).1 < 128 from k.2)]
    rfl
  · rw [In.x, dif_neg (show ¬(Fin.natAdd 128 k).1 < 128 by simp)]
    have e : (⟨(Fin.natAdd 128 k).1 - 128, by simp⟩ : Fin 128) = k := Fin.ext (by simp)
    rw [e]

theorem mx_row (H : Holds B c a) (I : a.Idle) (i : Fin 384) : B.mx (ix2 i c) = ((mul a.wih a.x i : ℝ) : EReal) := by
  have ht := tf_col H I
  have hm := mi_col H
  unfold Blocks.mx
  generalize B.mi = v at hm
  generalize B.tf = w at ht
  pointwise [k0_pay14]
  simp only [H.wih, hm _, ht _, ← EReal.coe_mul, sum_coe, ← EReal.coe_add, mul_x]

theorem sum_mul {n : ℕ} (f g : Fin n → ℝ) : (∑ k, f k * g k) = ∑ k, g k * f k :=
  Finset.sum_congr rfl fun k _ => mul_comm _ _

theorem mh_row (H : Holds B c a) (i : Fin 384) : B.mh (ix2 i c) = ((mul a.whh a.mem i : ℝ) : EReal) := by
  have hm := mem_col H
  unfold Blocks.mh
  generalize B.mem = v at hm
  pointwise [k0_pay15]
  simp only [H.whh, hm _, ← EReal.coe_mul, sum_coe]
  rw [sum_mul]
  rfl

/-- Row `128 p + j` of a stack is place `j` of part `p`. -/
theorem part {n : ℕ} {W : Fin 384 → Fin n → ℝ} {x : Fin n → ℝ} {v : FVec Ideal S384x2048 .f32}
    (h : ∀ i : Fin 384, v (ix2 i c) = ((mul W x i : ℝ) : EReal)) (p : Fin 3) (j : Fin 128) (i : Fin 384)
    (hi : i.1 = 128 * p.1 + j.1) : v (ix2 i c) = ((mul (fun j => W (In.at3 p j)) x j : ℝ) : EReal) := by
  obtain rfl : i = In.at3 p j := Fin.ext hi
  exact h _

theorem mxR_col (H : Holds B c a) (I : a.Idle) : Col B.mxR c (a.mx 0) := by
  have h := mx_row H I
  intro j
  unfold Blocks.mxR
  generalize B.mx = v at h
  pointwise [k0_pay16]
  exact part h 0 j _ (by simp)

theorem mxC_col (H : Holds B c a) (I : a.Idle) : Col B.mxC c (a.mx 1) := by
  have h := mx_row H I
  intro j
  unfold Blocks.mxC
  generalize B.mx = v at h
  pointwise [k0_pay21]
  exact part h 1 j _ (by simp)

theorem mxZ_col (H : Holds B c a) (I : a.Idle) : Col B.mxZ c (a.mx 2) := by
  have h := mx_row H I
  intro j
  unfold Blocks.mxZ
  generalize B.mx = v at h
  pointwise [k0_pay26]
  exact part h 2 j _ (by simp)

theorem mhR_col (H : Holds B c a) : Col B.mhR c (a.mh 0 a.mem) := by
  have h : ∀ i, k0_pay15 B.mem (View.ld B.x8 r0_4) (ix2 i c) = ((mul a.whh a.mem i : ℝ) : EReal) := mh_row H
  intro j
  unfold Blocks.mhR k0_pay31
  generalize k0_pay15 (F := Ideal) _ _ = v at h
  pointwise
  exact part h 0 j _ (by simp)

theorem mhZ_col (H : Holds B c a) : Col B.mhZ c (a.mh 2 a.mem) := by
  have h := mh_row H
  intro j
  unfold Blocks.mhZ
  generalize B.mh = v at h
  pointwise [k0_pay36]
  exact part h 2 j _ (by simp)

theorem mhC_col (H : Holds B c a) (hr : Col B.rh c a.rh) : Col B.mhC c (a.mh 1 a.rh) := by
  intro j
  unfold Blocks.mhC
  generalize B.rh = v at hr
  pointwise
  simp only [H.whh, hr _, ← EReal.coe_mul, sum_coe]
  rw [sum_mul]
  have e : (⟨128 + j.1, by omega⟩ : Fin 384) = In.at3 1 j := Fin.ext (by simp [In.at3])
  simp only [e]
  rfl

theorem hm_col (H : Holds B c a) : Col B.hm c a.hm := by
  intro j
  unfold Blocks.hm
  pointwise [k0_pay87]
  simp only [H.nw, H.h, H.nb, ← EReal.coe_mul, sum_coe, ← EReal.coe_add]
  rw [sum_mul]
  rfl

theorem neg_col (H : Holds B c a) : Col B.neg c (fun j => -a.mem j) := by
  have hm := mem_col H
  intro j
  unfold Blocks.neg
  generalize B.mem = v at hm
  pointwise [k0_pay74]
  rw [hm j, zero_sub, EReal.coe_neg]

/-! ## The biases -/

theorem bR_col (H : Holds B c a) : Col B.bR c (a.bias 0) := by
  intro j
  unfold Blocks.bR
  pointwise [k0_pay42]
  exact H.bR j

theorem sR_ln (H : Holds B c a) : Ln B.sR c (dot (a.bias 0) (a.bias 0)) := by
  unfold Ln
  pointwise [Blocks.sR, k0_pay43, k0_pay41]
  simp only [H.bias, ← EReal.coe_mul, sum_coe]
  rfl

theorem bC_col (H : Holds B c a) : Col B.bC c (a.bias 1) := by
  intro j
  unfold Blocks.bC
  pointwise [k0_pay44]
  exact H.bC j

theorem sC_ln (H : Holds B c a) : Ln B.sC c (dot (a.bias 1) (a.bias 1)) := by
  unfold Ln
  pointwise [Blocks.sC, k0_pay45, k0_pay41]
  simp only [H.bias, ← EReal.coe_mul, sum_coe]
  rfl

theorem bZ_col (H : Holds B c a) : Col B.bZ c (a.bias 2) := by
  intro j
  unfold Blocks.bZ
  pointwise [k0_pay46]
  exact H.bZ j

theorem sZ_ln (H : Holds B c a) : Ln B.sZ c (dot (a.bias 2) (a.bias 2)) := by
  unfold Ln
  pointwise [Blocks.sZ, k0_pay47, k0_pay41]
  simp only [H.bias, ← EReal.coe_mul, sum_coe]
  rfl

/-! ## The factors of the products -/

theorem hss_ln (H : Holds B c a) : Ln B.hss c (nrm a.mem ^ 2) := guard_col (sums_col (mem_col H) (mem_col H))

theorem ah_ln (H : Holds B c a) : Ln B.ah c (art (nrm a.mem) * (nrm a.mem)⁻¹) := aonOf_ln (nrm_pos _) (hss_ln H)

theorem ax_ln (H : Holds B c a) (I : a.Idle) : Ln B.ax c (art (nrm a.x) * (nrm a.x)⁻¹) := by
  refine aonOf_ln (nrm_pos _) (guard_col ?_)
  have h := sums_col (mi_col H) (mi_col H)
  have ht := tfn_ln H I
  generalize sums B.mi B.mi = v at h
  generalize mulf B.tfn B.tfn = w at ht
  unfold Ln at h ht ⊢
  pointwise
  rw [h, ht, ← EReal.coe_add, dot_x]

/-! ## The gates -/

theorem gateR_col (H : Holds B c a) (I : a.Idle) : Col B.gateR c (a.gate 0 a.mem) := by
  have h : Col B.inR c (add (a.gh 0 a.mem) (a.gx 0)) :=
    madd_col (scl_col (ah_ln H) (mhR_col H)) (scl_col (ax_ln H I) (mxR_col H I)) (scl_ln I.mr (ah_ln H) (mhR_col H))
      (scl_ln (I.mx 0) (ax_ln H I) (mxR_col H I))
  exact madd_col h (bR_col H) (sums_col h h) (sR_ln H)

theorem gateZ_col (H : Holds B c a) (I : a.Idle) : Col B.gateZ c (a.gate 2 a.mem) := by
  have h : Col B.inZ c (add (a.gh 2 a.mem) (a.gx 2)) :=
    madd_col (scl_col (ah_ln H) (mhZ_col H)) (scl_col (ax_ln H I) (mxZ_col H I)) (scl_ln I.mz (ah_ln H) (mhZ_col H))
      (scl_ln (I.mx 2) (ax_ln H I) (mxZ_col H I))
  exact madd_col h (bZ_col H) (sums_col h h) (sZ_ln H)

theorem z_col (H : Holds B c a) (I : a.Idle) : Col B.z c a.z := logi_col (gateZ_col H I)

theorem mul_col {v w : FVec Ideal S128x2048 .f32} {f g : Fin 128 → ℝ} (hv : Col v c f) (hw : Col w c g) :
    Col (mulf v w) c (fun j => f j * g j) := by
  intro j
  pointwise
  rw [hv j, hw j, EReal.coe_mul]

theorem rm_col (H : Holds B c a) (I : a.Idle) : Col B.rm c a.rm := mul_col (logi_col (gateR_col H I)) (mem_col H)

theorem rh_col (H : Holds B c a) (I : a.Idle) : Col B.rh c a.rh := scl_col (ah_ln H) (rm_col H I)

/-- The norm of the memory after the reset, guarded. -/
theorem rhn_ln (H : Holds B c a) (I : a.Idle) : Ln B.rhn c (nrm a.rh) := by
  have h : Ln B.trh c _ := tOf_ln (ah_ln H) (rm_col H I)
  unfold Blocks.rhn In.rh
  rw [nrm_scl I.rm (nrm_pos _)]
  generalize B.trh = v at h
  unfold Ln at h ⊢
  pointwise
  rw [h, bits_q, max_coe]

theorem arh_ln (H : Holds B c a) (I : a.Idle) : Ln B.arh c (art (nrm a.rh) * (nrm a.rh)⁻¹) := by
  refine aon_ln (nrm_pos _) (rhn_ln H I) ?_
  have h := rhn_ln H I
  generalize B.rhn = v at h
  unfold Ln at h ⊢
  pointwise [one]
  rw [h, one_coe, div_real _ (nrm_ne _), one_div]

theorem cand_col (H : Holds B c a) (I : a.Idle) : Col B.cand c a.cand := by
  have hm := mhC_col H (rh_col H I)
  have h : Col B.inC c (add (a.gh 1 a.rh) (a.gx 1)) :=
    madd_col (scl_col (arh_ln H I) hm) (scl_col (ax_ln H I) (mxC_col H I)) (scl_ln I.mc (arh_ln H I) hm)
      (scl_ln (I.mx 1) (ax_ln H I) (mxC_col H I))
  exact madd_col h (bC_col H) (sums_col h h) (sC_ln H)

/-! ## The result -/

/-- The memory's guard is idle where its product's with the reset gate is. -/
theorem mem_sq (I : a.Idle) : nrm a.mem ^ 2 = dot a.mem a.mem :=
  nrm_of_idle (mem_idle (fun _ => lgst_pos _) (fun _ => lgst_lt _) I.rm)

theorem delta_col (H : Holds B c a) (I : a.Idle) : Col B.delta c a.delta := by
  have hc := cand_col H I
  refine madd_col (neg_col H) hc ?_ (sums_col hc hc)
  rw [dot_neg, ← mem_sq I]
  exact hss_ln H

theorem zd_col (H : Holds B c a) (I : a.Idle) : Col B.zd c a.zd := mul_col (z_col H I) (delta_col H I)

theorem upd_col (H : Holds B c a) (I : a.Idle) : Col B.upd c a.upd := by
  have hd := aonOf_ln (nrm_pos _) (guard_col (sums_col (delta_col H I) (delta_col H I)))
  refine madd_col (mem_col H) (scl_col hd (zd_col H I)) ?_ (scl_ln I.zd hd (zd_col H I))
  rw [← mem_sq I]
  exact hss_ln H

/-- The body's result at a column whose guards are idle. -/
theorem out_row (H : Holds B c a) (I : a.Idle) (j : Fin 128) : B.out (ix2 c j) = ((a.out j : ℝ) : EReal) := by
  have hu := upd_col H I
  have hh := hm_col H
  have h := madd_col hu hh (sums_col hu hu) (sums_col hh hh)
  unfold Blocks.out
  generalize madd B.upd B.hm (sums B.upd B.upd) (sums B.hm B.hm) = v at h
  pointwise
  exact h j

end Cert.Gru.Tile

end
-- ==== Proof.HostOps.lean ====
/-
  The reference's functions, as the mask prints them, read at one row: applied to vectors whose row `n` is real they
  leave a vector whose row `n` is the real function of Row.lean.
-/
module

public import proofs.«01_k».proof.On_guards_idle
public import proofs.«01_k».proof.Proof.Row

@[expose] public section

set_option maxRecDepth 16384

noncomputable section

namespace Cert.Gru

open Idealize.ShloMosaic Cert.On_guards_idle

/-- The side conditions of the mask's operations. -/
theorem onFacts : Cert.On_guards_idle.Facts := by constructor <;> decide

attribute [local instance] onFacts

/-- Row `n` of a matrix is the real vector `f`. -/
def Row {N p : ℕ} (v : (⟨2, ![N, p]⟩ : Shape).Idx → EReal) (n : Fin N) (f : Fin p → ℝ) : Prop :=
  ∀ j : Fin p, v (ix2 n j) = ((f j : ℝ) : EReal)

/-- Entry `n` of a column is the real number `r`. -/
def At {N : ℕ} (v : (⟨2, ![N, 1]⟩ : Shape).Idx → EReal) (n : Fin N) (r : ℝ) : Prop := v (ix2 n 0) = ((r : ℝ) : EReal)

/-! ## Scalars -/

theorem sqrt_one : Ideal.sqrt 1 = 1 := by
  rw [one_coe, sqrt_real (by norm_num), Real.sqrt_one]

theorem sqrt_sum {p : ℕ} (f : Fin p → ℝ) : Ideal.sqrt ((∑ k, f k * f k : ℝ) : EReal) = ((√(dot f f) : ℝ) : EReal) :=
  sqrt_real (dot_self_nonneg f)

theorem norm_sum {p : ℕ} (f : Fin p → ℝ) :
    max (Ideal.sqrt ((∑ k, f k * f k : ℝ) : EReal)) ((q : ℝ) : EReal) = ((nrm f : ℝ) : EReal) := by
  rw [sqrt_sum, max_coe, nrm]

theorem log1p_real {a : ℝ} (h : -1 < a) : Ideal.log1p (a : EReal) = ((Real.log (1 + a) : ℝ) : EReal) := by
  rw [Ideal.log1p, one_coe, ← EReal.coe_add, log_real (by linarith)]

theorem art_real (r : ℝ) :
    Ideal.ofBits .f32 0x3F000000#32 *
      (Ideal.log1p (min (Ideal.ofBits .f32 0x3F7FFFFE#32) (max (Ideal.ofBits .f32 0xBF7FFFFE#32) (r : EReal)))
        - Ideal.log1p (-min (Ideal.ofBits .f32 0x3F7FFFFE#32) (max (Ideal.ofBits .f32 0xBF7FFFFE#32) (r : EReal))))
      = ((art r : ℝ) : EReal) := by
  rw [bits_half, bits_hi, bits_neg_hi, max_coe, min_coe, ← EReal.coe_neg]
  change _ * (Ideal.log1p ((clp r : ℝ) : EReal) - Ideal.log1p ((-clp r : ℝ) : EReal)) = _
  rw [log1p_real (neg_lt_clp r), log1p_real (show -1 < -clp r by linarith [clp_lt r]), ← EReal.coe_sub, ← EReal.coe_mul]
  rfl

theorem ofBool_one (b : Bool) : BitVec.ofBool b = 1#1 ↔ b = true := by cases b <;> decide

/-- A conjunction of bits that is one has only ones. -/
theorem fold_and_one {p : ℕ} {b : Fin p → BitVec 1} (h : Finset.univ.fold IntOp.andi (1#1) b = 1#1) (k : Fin p) :
    b k = 1#1 := by
  have key : ∀ s : Finset (Fin p), s.fold IntOp.andi (1#1) b = 1#1 → ∀ k ∈ s, b k = 1#1 := by
    intro s
    induction s using Finset.induction_on with
    | empty => intro _ k hk; simp at hk
    | insert a s ha ih =>
      intro hs k hk
      rw [Finset.fold_insert ha] at hs
      have hab : b a = 1#1 ∧ s.fold IntOp.andi (1#1) b = 1#1 := by
        revert hs
        generalize b a = x
        generalize s.fold IntOp.andi (1#1) b = y
        revert x y; decide
      rcases Finset.mem_insert.mp hk with rfl | hk
      · exact hab.1
      · exact ih hab.2 k hk
  exact key _ h k (Finset.mem_univ k)

/-- A product with a point of the ball, which the reference sets to zero where the plain product is zero. -/
theorem scl_real {p : ℕ} (xn : ℝ) (hx : xn ≠ 0) (m : Fin p → ℝ) (j : Fin p) {b : Fin p → BitVec 1}
    (hb : ∀ k, b k = BitVec.ofBool (decide (((m k : ℝ) : EReal) = 0))) :
    Scalar.select (Finset.univ.fold IntOp.andi (1#1) b) (0 : EReal)
      (Ideal.div (Ideal.tanh (Ideal.div ((nrm m : ℝ) : EReal) ((xn : ℝ) : EReal) * ((art xn : ℝ) : EReal)) * ((m j : ℝ) : EReal))
        ((nrm m : ℝ) : EReal)) = ((scl xn m j : ℝ) : EReal) := by
  rw [div_real _ hx, ← EReal.coe_mul, Ideal.tanh_coe, ← EReal.coe_mul, div_real _ (nrm_ne m)]
  by_cases h : Finset.univ.fold IntOp.andi (1#1) b = 1#1
  · have hm : m j = 0 := by
      have := fold_and_one h j
      rw [hb j, ofBool_one, decide_eq_true_iff] at this
      exact EReal.coe_eq_zero.mp this
    rw [h]
    simp [Scalar.select, scl, hm]
  · simp [Scalar.select, h, scl]

variable {n : Fin 131072}

/-! ## The functions -/

theorem norm_raw {x : FVec Ideal S131072x128 .f32} {f : Fin 128 → ℝ} (h : Row x n f) :
    At (fn_norm (F := Ideal) x) n (√(dot f f)) := by
  unfold At
  pointwise [fn_norm]
  simp only [h _, ← EReal.coe_mul, sum_coe, sqrt_sum]

theorem expmap_row {x : FVec Ideal S131072x128 .f32} {f : Fin 128 → ℝ} (h : Row x n f) :
    Row (fn_expmap0 (F := Ideal) x) n (expm f) := by
  intro j
  pointwise [fn_expmap0, fn_norm, id]
  simp only [h _, ← EReal.coe_mul, sum_coe, bits_q, norm_sum, sqrt_one, one_mul, Ideal.tanh_coe, div_real _ (nrm_ne f)]
  rfl

theorem proj_row {x : FVec Ideal S131072x128 .f32} {f : Fin 128 → ℝ} (h : Row x n f) :
    Row (fn_proj (F := Ideal) x) n (prj f) := by
  intro j
  pointwise [fn_proj, fn_where, fn_norm, id]
  have h1 : Ideal.div ((rad : ℝ) : EReal) 1 = ((rad : ℝ) : EReal) := by rw [one_coe, div_real _ one_ne_zero, div_one]
  simp only [h _, ← EReal.coe_mul, sum_coe, bits_q, bits_rad, norm_sum, sqrt_one, h1, div_real _ (nrm_ne f)]
  unfold prj
  by_cases hc : rad < nrm f
  · simp [Scalar.select, hc]
  · simp [Scalar.select, hc]

theorem logmap_row {x : FVec Ideal S131072x128 .f32} {f : Fin 128 → ℝ} (h : Row x n f) :
    Row (fn_logmap0 (F := Ideal) x) n (lgm f) := by
  intro j
  pointwise [fn_logmap0, fn_logmap0_part1, fn_clip, fn_norm, id]
  simp only [h _, ← EReal.coe_mul, sum_coe, bits_q, norm_sum, sqrt_one, one_mul, art_real, div_real _ (nrm_ne f)]
  rfl

theorem matvec_row {W : FVec Ideal S128x128 .f32} {w : Fin 128 → Fin 128 → ℝ} (hW : ∀ i, Row W i (w i))
    {x : FVec Ideal S131072x128 .f32} {f : Fin 128 → ℝ} (h : Row x n f) :
    Row (fn_mobius_matvec (F := Ideal) W x) n (scl (nrm f) (mul w f)) := by
  intro j
  pointwise [fn_mobius_matvec, fn_mobius_matvec_part1, fn_where, fn_clip, fn_norm, fn_norm_0, id]
  simp only [h _, hW _ _, ← EReal.coe_mul, sum_coe, bits_q, norm_sum, sqrt_one, one_mul, mul_one, art_real]
  exact scl_real (nrm f) (nrm_ne f) (mul w f) j (fun k => rfl)

theorem matvec_row' {W : FVec Ideal S128x128 .f32} {x : FVec Ideal S131072x128 .f32} :
    fn_mobius_matvec_4 (F := Ideal) W x = fn_mobius_matvec (F := Ideal) W x := rfl

theorem matvec_row2 {W : FVec Ideal S128x256 .f32} {w : Fin 128 → Fin 256 → ℝ} (hW : ∀ i, Row W i (w i))
    {x : FVec Ideal S131072x256 .f32} {f : Fin 256 → ℝ} (h : Row x n f) :
    Row (fn_mobius_matvec_1 (F := Ideal) W x) n (scl (nrm f) (mul w f)) := by
  intro j
  pointwise [fn_mobius_matvec_1, fn_mobius_matvec_1_part1, fn_where, fn_clip, fn_norm, fn_norm_0, fn_norm_2, id]
  simp only [h _, hW _ _, ← EReal.coe_mul, sum_coe, bits_q, norm_sum, sqrt_one, one_mul, mul_one, art_real]
  exact scl_real (nrm f) (nrm_ne f) (mul w f) j (fun k => rfl)

theorem pmul_row {x y : FVec Ideal S131072x128 .f32} {f g : Fin 128 → ℝ} (hx : Row x n f) (hy : Row y n g) :
    Row (fn_mobius_pointwise_mul (F := Ideal) x y) n (scl (nrm g) (fun k => f k * g k)) := by
  intro j
  pointwise [fn_mobius_pointwise_mul, fn_mobius_pointwise_mul_part1, fn_where, fn_clip, fn_norm, fn_norm_0, id]
  simp only [hx _, hy _, ← EReal.coe_mul, sum_coe, bits_q, norm_sum, sqrt_one, one_mul, mul_one, art_real]
  exact scl_real (nrm g) (nrm_ne g) (fun k => f k * g k) j (fun k => rfl)

theorem add_row {x y : FVec Ideal S131072x128 .f32} {f g : Fin 128 → ℝ} (hx : Row x n f) (hy : Row y n g) :
    Row (fn_mobius_add (F := Ideal) x y) n (add f g) := by
  intro j
  pointwise [fn_mobius_add, fn_mobius_add_part1, fn_mobius_add_part2]
  simp only [hx _, hy _, one_coe, ← EReal.coe_mul, sum_coe, bits_q, bits_two, ← EReal.coe_add, ← EReal.coe_sub, max_coe,
    div_real _ (max_q_ne _)]
  rfl

theorem addb_row {x : FVec Ideal S131072x128 .f32} {b : FVec Ideal S128 .f32} {f g : Fin 128 → ℝ} (hx : Row x n f)
    (hb : ∀ j, b (ix1 j) = ((g j : ℝ) : EReal)) : Row (fn_mobius_add_3 (F := Ideal) x b) n (add f g) := by
  intro j
  pointwise [fn_mobius_add_3, fn_mobius_add_3_part1, fn_mobius_add_3_part2]
  simp only [hx _, hb _, one_coe, ← EReal.coe_mul, sum_coe, bits_q, bits_two, ← EReal.coe_add, ← EReal.coe_sub, max_coe,
    div_real _ (max_q_ne _)]
  rfl

end Cert.Gru

end
-- ==== Proof.Vals.lean ====
/-
  The reference's intermediate vectors in the mask's own functions, and each read at a row of real inputs.
-/
module

public import proofs.«01_k».proof.Proof.HostOps
public import proofs.«01_k».proof.Proof.Cell

@[expose] public section

set_option maxRecDepth 16384

noncomputable section

namespace Cert.Gru

open Idealize.ShloMosaic Cert.On_guards_idle Facts

attribute [local instance] onFacts

/-- The twelve argument vectors. -/
structure Args where
  a0 : FVec Ideal S131072x128 .f32
  a1 : FVec Ideal S131072x128 .f32
  a2 : FVec Ideal S131072 .f32
  a3 : FVec Ideal S131072 .f32
  a4 : FVec Ideal S131072x100 .f32
  a5 : FVec Ideal S128 .f32
  a6 : FVec Ideal S128 .f32
  a7 : FVec Ideal S384x256 .f32
  a8 : FVec Ideal S384x128 .f32
  a9 : FVec Ideal S3x128 .f32
  a10 : FVec Ideal S128x100 .f32
  a11 : FVec Ideal S128 .f32

/-- The argument vectors at row `n` are the real inputs `a`. -/
structure Reads (A : Args) (n : Fin 131072) (a : In) : Prop where
  mi : Row A.a0 n a.mi
  mem : Row A.a1 n a.mem
  ts : A.a2 (ix1 n) = ((a.ts : ℝ) : EReal)
  mts : A.a3 (ix1 n) = ((a.mts : ℝ) : EReal)
  h : Row A.a4 n a.h
  tw : ∀ j, A.a5 (ix1 j) = ((a.tw j : ℝ) : EReal)
  tb : ∀ j, A.a6 (ix1 j) = ((a.tb j : ℝ) : EReal)
  wih : ∀ i, Row A.a7 i (a.wih i)
  whh : ∀ i, Row A.a8 i (a.whh i)
  bias : ∀ i, Row A.a9 i (a.bias i)
  nw : ∀ i, Row A.a10 i (a.nw i)
  nb : ∀ j, A.a11 (ix1 j) = ((a.nb j : ℝ) : EReal)

/-- The logistic function of the logarithmic map. -/
def vSig (v : FVec Ideal S131072x128 .f32) : FVec Ideal S131072x128 .f32 :=
  Host.divf (broadcastInDim S131072x128 ![] bcast_S_S131072x128 (constant S_ .f32 0x3F800000#32))
    (addf (broadcastInDim S131072x128 ![] bcast_S_S131072x128 (constant S_ .f32 0x3F800000#32))
      (Host.exp (Host.negf (fn_logmap0 (F := Ideal) v))))

/-- One transform of the memory `hx` and the input `x`. -/
def vGate (wh : FVec Ideal S128x128 .f32) (wi : FVec Ideal S128x256 .f32) (b : FVec Ideal S1x128 .f32)
    (hx : FVec Ideal S131072x128 .f32) (x : FVec Ideal S131072x256 .f32) : FVec Ideal S131072x128 .f32 :=
  fn_mobius_add_3 (F := Ideal) (fn_mobius_add (F := Ideal) (fn_mobius_matvec (F := Ideal) wh hx)
    (fn_mobius_matvec_1 (F := Ideal) wi x)) (shapeCast S128 b shapeCasts_S1x128_S128)

namespace Args

variable (A : Args)

/-- The time encoding. -/
def vU : FVec Ideal S131072x128 .f32 :=
  Host.cos (addf (mulf (broadcastInDim S131072x128 ![0, 1] bcast_S131072x1_S131072x128_0_1
      (broadcastInDim S131072x1 ![0] bcast_S131072_S131072x1_0 (subf A.a2 A.a3)))
    (broadcastInDim S131072x128 ![0, 1] bcast_S1x128_S131072x128_0_1 (broadcastInDim S1x128 ![1] bcast_S128_S1x128_1 A.a5)))
    (broadcastInDim S131072x128 ![0, 1] bcast_S1x128_S131072x128_0_1 (broadcastInDim S1x128 ![1] bcast_S128_S1x128_1 A.a6)))

/-- The cell's input. -/
def vX : FVec Ideal S131072x256 .f32 :=
  concatenate S131072x256 1 [⟨S131072x128, A.a0⟩, ⟨S131072x128, fn_proj (F := Ideal) (fn_expmap0 (F := Ideal) A.vU)⟩]
    concatenates_S131072x128_S131072x128_S131072x256_d1

/-- The three parts of the input's weight. -/
def vWi0 : FVec Ideal S128x256 .f32 := extractStridedSlice S128x256 ![0, 0] A.a7 slices_S384x256_S128x256_0_0
@[inherit_doc vWi0]
def vWi1 : FVec Ideal S128x256 .f32 := extractStridedSlice S128x256 ![128, 0] A.a7 slices_S384x256_S128x256_128_0
@[inherit_doc vWi0]
def vWi2 : FVec Ideal S128x256 .f32 := extractStridedSlice S128x256 ![256, 0] A.a7 slices_S384x256_S128x256_256_0

/-- The three parts of the memory's weight. -/
def vWh0 : FVec Ideal S128x128 .f32 := extractStridedSlice S128x128 ![0, 0] A.a8 slices_S384x128_S128x128_0_0
@[inherit_doc vWh0]
def vWh1 : FVec Ideal S128x128 .f32 := extractStridedSlice S128x128 ![128, 0] A.a8 slices_S384x128_S128x128_128_0
@[inherit_doc vWh0]
def vWh2 : FVec Ideal S128x128 .f32 := extractStridedSlice S128x128 ![256, 0] A.a8 slices_S384x128_S128x128_256_0

/-- The three biases. -/
def vB0 : FVec Ideal S1x128 .f32 := extractStridedSlice S1x128 ![0, 0] A.a9 slices_S3x128_S1x128_0_0
@[inherit_doc vB0]
def vB1 : FVec Ideal S1x128 .f32 := extractStridedSlice S1x128 ![1, 0] A.a9 slices_S3x128_S1x128_1_0
@[inherit_doc vB0]
def vB2 : FVec Ideal S1x128 .f32 := extractStridedSlice S1x128 ![2, 0] A.a9 slices_S3x128_S1x128_2_0

/-- The update gate. -/
def vZ : FVec Ideal S131072x128 .f32 := vSig (vGate A.vWh2 A.vWi2 A.vB2 A.a1 A.vX)
/-- The reset gate. -/
def vR : FVec Ideal S131072x128 .f32 := vSig (vGate A.vWh0 A.vWi0 A.vB0 A.a1 A.vX)
/-- The memory after the reset. -/
def vRh : FVec Ideal S131072x128 .f32 := fn_mobius_pointwise_mul (F := Ideal) A.vR A.a1
/-- The candidate. -/
def vCand : FVec Ideal S131072x128 .f32 := vGate A.vWh1 A.vWi1 A.vB1 A.vRh A.vX
/-- The step. -/
def vDelta : FVec Ideal S131072x128 .f32 := fn_mobius_add (F := Ideal) (Host.negf A.a1) A.vCand
/-- The updated memory. -/
def vUpd : FVec Ideal S131072x128 .f32 := fn_mobius_add (F := Ideal) A.a1 (fn_mobius_pointwise_mul (F := Ideal) A.vZ A.vDelta)

end Args

variable {A : Args} {n : Fin 131072} {a : In}

theorem sig_row {v : FVec Ideal S131072x128 .f32} {f : Fin 128 → ℝ} (h : Row v n f) :
    Row (vSig v) n (fun j => lgst (lgm f j)) := by
  intro j
  have hl := logmap_row h
  unfold vSig
  generalize fn_logmap0 (F := Ideal) v = w at hl
  pointwise [id]
  rw [hl j, ← EReal.coe_neg, Ideal.exp_coe, one_coe, ← EReal.coe_add, div_real _ (by positivity)]
  rfl

theorem gate_row {wh : FVec Ideal S128x128 .f32} {wi : FVec Ideal S128x256 .f32} {b : FVec Ideal S1x128 .f32}
    {hx : FVec Ideal S131072x128 .f32} {x : FVec Ideal S131072x256 .f32} {rh : Fin 128 → Fin 128 → ℝ}
    {ri : Fin 128 → Fin 256 → ℝ} {rb : Fin 128 → ℝ} {f : Fin 128 → ℝ} {g : Fin 256 → ℝ}
    (hwh : ∀ i, Row wh i (rh i)) (hwi : ∀ i, Row wi i (ri i)) (hb : Row b 0 rb) (hh : Row hx n f) (hxx : Row x n g) :
    Row (vGate wh wi b hx x) n (add (add (scl (nrm f) (mul rh f)) (scl (nrm g) (mul ri g))) rb) := by
  refine addb_row (add_row (matvec_row hwh hh) (matvec_row2 hwi hxx)) fun j => ?_
  pointwise [id]
  exact hb j

namespace Reads

variable (H : Reads A n a)
include H

theorem vU : Row A.vU n a.u := by
  intro j
  pointwise [Args.vU, id]
  rw [H.ts, H.mts, H.tw, H.tb, ← EReal.coe_sub, ← EReal.coe_mul, ← EReal.coe_add, Ideal.cos_coe]
  rfl

theorem vX : Row A.vX n a.x := by
  intro j
  have h := proj_row (expmap_row H.vU)
  unfold Args.vX
  generalize fn_proj (F := Ideal) (fn_expmap0 (F := Ideal) A.vU) = w at h
  pointwise [id]
  unfold In.x
  by_cases hj : j.1 < 128
  · rw [dif_pos hj, dif_pos hj, H.mi]
  · rw [dif_neg hj, dif_neg hj, h]
    rfl

theorem vWi0 (i : Fin 128) : Row A.vWi0 i (a.wi 0 i) := by
  intro j
  pointwise [Args.vWi0]
  refine Eq.trans ?_ (H.wih (In.at3 0 i) j)
  congr 2
  exact Fin.ext (by simp [In.at3])

theorem vWi1 (i : Fin 128) : Row A.vWi1 i (a.wi 1 i) := by
  intro j
  pointwise [Args.vWi1]
  refine Eq.trans ?_ (H.wih (In.at3 1 i) j)
  congr 2

theorem vWi2 (i : Fin 128) : Row A.vWi2 i (a.wi 2 i) := by
  intro j
  pointwise [Args.vWi2]
  refine Eq.trans ?_ (H.wih (In.at3 2 i) j)
  congr 2

theorem vWh0 (i : Fin 128) : Row A.vWh0 i (a.wh 0 i) := by
  intro j
  pointwise [Args.vWh0]
  refine Eq.trans ?_ (H.whh (In.at3 0 i) j)
  congr 2
  exact Fin.ext (by simp [In.at3])

theorem vWh1 (i : Fin 128) : Row A.vWh1 i (a.wh 1 i) := by
  intro j
  pointwise [Args.vWh1]
  refine Eq.trans ?_ (H.whh (In.at3 1 i) j)
  congr 2

theorem vWh2 (i : Fin 128) : Row A.vWh2 i (a.wh 2 i) := by
  intro j
  pointwise [Args.vWh2]
  refine Eq.trans ?_ (H.whh (In.at3 2 i) j)
  congr 2

theorem vB0 : Row A.vB0 0 (a.bias 0) := by
  intro j
  pointwise [Args.vB0]
  exact H.bias 0 j

theorem vB1 : Row A.vB1 0 (a.bias 1) := by
  intro j
  pointwise [Args.vB1]
  exact H.bias 1 j

theorem vB2 : Row A.vB2 0 (a.bias 2) := by
  intro j
  pointwise [Args.vB2]
  exact H.bias 2 j

theorem vZ : Row A.vZ n a.z := sig_row (gate_row H.vWh2 H.vWi2 H.vB2 H.mem H.vX)
theorem vR : Row A.vR n a.r := sig_row (gate_row H.vWh0 H.vWi0 H.vB0 H.mem H.vX)
theorem vRh : Row A.vRh n a.rh := pmul_row H.vR H.mem
theorem vCand : Row A.vCand n a.cand := gate_row H.vWh1 H.vWi1 H.vB1 H.vRh H.vX

theorem vDelta : Row A.vDelta n a.delta := by
  refine add_row (fun j => ?_) H.vCand
  pointwise [id]
  rw [H.mem j, EReal.coe_neg]

theorem vUpd : Row A.vUpd n a.upd := add_row H.mem (pmul_row H.vZ H.vDelta)

end Reads

end Cert.Gru

end
-- ==== Proof.Window.lean ====
/-
  The blocks of a grid point as the arguments: each window's place in its array, and each array's entries as the launch
  leaves them through the host's reshapes and broadcasts.
-/
module

public import proofs.«01_k».proof.Proof.Column
public import proofs.«01_k».proof.Proof.Vals
public import proofs.«01_k».proof.Proof.Gen.KernelIdeal.Value
public import Idealize.ShloMosaic.Lib.Claim
public import Idealize.ShloMosaic.Lib.Pipeline.ValueKit

@[expose] public section

set_option maxRecDepth 16384

noncomputable section

namespace Cert.Gru.Win

open Cert.KernelIdeal Cert.KernelIdeal.Gen Idealize.ShloMosaic Idealize.ShloMosaic.TcCoe Idealize.SL.Sem
open Idealize.ShloMosaic.Pipeline (Dat)
open Cert.Gru.Tile

/-! ## Places -/

theorem index0 : ∀ t : Fin cfg0.N, win0_0.index t = ![t.1, 0] := by decide +kernel
theorem index1 : ∀ t : Fin cfg0.N, win0_1.index t = ![t.1, 0] := by decide +kernel
theorem index2 : ∀ t : Fin cfg0.N, win0_2.index t = ![0, t.1] := by decide +kernel
theorem index3 : ∀ t : Fin cfg0.N, win0_3.index t = ![0, t.1] := by decide +kernel
theorem index4 : ∀ t : Fin cfg0.N, win0_4.index t = ![t.1, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![0, 0] := by decide +kernel
theorem index13 : ∀ t : Fin cfg0.N, win0_13.index t = ![0, 0] := by decide +kernel
theorem index14 : ∀ t : Fin cfg0.N, win0_14.index t = ![0, 0] := by decide +kernel
theorem index15 : ∀ t : Fin cfg0.N, win0_15.index t = ![t.1, 0] := by decide +kernel

variable (t : Fin cfg0.N)

theorem emb0 (i : Fin 2048) (j : Fin 128) (n : Fin 131072) (hn : n.1 = t.1 * 2048 + i.1) :
    ((cfg0.win 0).blk t).view.emb (ix2 i j) = ix2 n j := by
  blk_ext [index0]

theorem emb1 (i : Fin 2048) (j : Fin 128) (n : Fin 131072) (hn : n.1 = t.1 * 2048 + i.1) :
    ((cfg0.win 1).blk t).view.emb (ix2 i j) = ix2 n j := by
  blk_ext [index1]

theorem emb2 (i : Fin 2048) (n : Fin 131072) (hn : n.1 = t.1 * 2048 + i.1) :
    ((cfg0.win 2).blk t).view.emb (ix2 0 i) = ix2 0 n := by
  blk_ext [index2]

theorem emb3 (i : Fin 2048) (n : Fin 131072) (hn : n.1 = t.1 * 2048 + i.1) :
    ((cfg0.win 3).blk t).view.emb (ix2 0 i) = ix2 0 n := by
  blk_ext [index3]

theorem emb4 (i : Fin 2048) (j : Fin 100) (n : Fin 131072) (hn : n.1 = t.1 * 2048 + i.1) :
    ((cfg0.win 4).blk t).view.emb (ix2 i j) = ix2 n j := by
  blk_ext [index4]

theorem emb5 (i : Fin 128) (j : Fin 2048) : ((cfg0.win 5).blk t).view.emb (ix2 i j) = ix2 i j := by
  blk_ext [index5]

theorem emb6 (i : Fin 128) (j : Fin 2048) : ((cfg0.win 6).blk t).view.emb (ix2 i j) = ix2 i j := by
  blk_ext [index6]

theorem emb7 (i : Fin 384) (j : Fin 256) : ((cfg0.win 7).blk t).view.emb (ix2 i j) = ix2 i j := by
  blk_ext [index7]

theorem emb8 (i : Fin 384) (j : Fin 128) : ((cfg0.win 8).blk t).view.emb (ix2 i j) = ix2 i j := by
  blk_ext [index8]

theorem emb9 (i : Fin 128) (j : Fin 3) : ((cfg0.win 9).blk t).view.emb (ix2 i j) = ix2 i j := by
  blk_ext [index9]

theorem emb10 (i : Fin 128) (j : Fin 2048) : ((cfg0.win 10).blk t).view.emb (ix2 i j) = ix2 i j := by
  blk_ext [index10]

theorem emb11 (i : Fin 128) (j : Fin 2048) : ((cfg0.win 11).blk t).view.emb (ix2 i j) = ix2 i j := by
  blk_ext [index11]

theorem emb12 (i : Fin 128) (j : Fin 2048) : ((cfg0.win 12).blk t).view.emb (ix2 i j) = ix2 i j := by
  blk_ext [index12]

theorem emb13 (i : Fin 128) (j : Fin 100) : ((cfg0.win 13).blk t).view.emb (ix2 i j) = ix2 i j := by
  blk_ext [index13]

theorem emb14 (i : Fin 128) (j : Fin 2048) : ((cfg0.win 14).blk t).view.emb (ix2 i j) = ix2 i j := by
  blk_ext [index14]

theorem emb15 (i : Fin 2048) (j : Fin 128) (n : Fin 131072) (hn : n.1 = t.1 * 2048 + i.1) :
    ((cfg0.win 15).blk t).view.emb (ix2 i j) = ix2 n j := by
  blk_ext [index15]

/-! ## Entries -/

variable (m : (ℓ : Loc nD τ sig) → Buf (Elt Ideal) ℓ) (c : Dev nD)

theorem read0 (i : Fin 2048) (j : Fin 128) (n : Fin 131072) (hn : n.1 = t.1 * 2048 + i.1) :
    iblk m c 0 t (ix2 i j) = m ((c : Thread nD τ).loc main_arg0) (ix2 n j) := by
  refine (congrArg (V m c main_arg0) (emb0 t i j n hn)).trans ?_
  entry_read
  rfl

theorem read1 (i : Fin 2048) (j : Fin 128) (n : Fin 131072) (hn : n.1 = t.1 * 2048 + i.1) :
    iblk m c 1 t (ix2 i j) = m ((c : Thread nD τ).loc main_arg1) (ix2 n j) := by
  refine (congrArg (V m c main_arg1) (emb1 t i j n hn)).trans ?_
  entry_read
  rfl

theorem read2 (i : Fin 2048) (n : Fin 131072) (hn : n.1 = t.1 * 2048 + i.1) :
    iblk m c 2 t (ix2 0 i) = m ((c : Thread nD τ).loc main_arg2) (ix1 n) := by
  refine (congrArg (V m c main_v0) (emb2 t i n hn)).trans ?_
  entry_read
  pointwise

theorem read3 (i : Fin 2048) (n : Fin 131072) (hn : n.1 = t.1 * 2048 + i.1) :
    iblk m c 3 t (ix2 0 i) = m ((c : Thread nD τ).loc main_arg3) (ix1 n) := by
  refine (congrArg (V m c main_v1) (emb3 t i n hn)).trans ?_
  entry_read
  pointwise

theorem read4 (i : Fin 2048) (j : Fin 100) (n : Fin 131072) (hn : n.1 = t.1 * 2048 + i.1) :
    iblk m c 4 t (ix2 i j) = m ((c : Thread nD τ).loc main_arg4) (ix2 n j) := by
  refine (congrArg (V m c main_arg4) (emb4 t i j n hn)).trans ?_
  entry_read
  rfl

theorem read5 (i : Fin 128) (j : Fin 2048) :
    iblk m c 5 t (ix2 i j) = m ((c : Thread nD τ).loc main_arg5) (ix1 i) := by
  refine (congrArg (V m c main_v3) (emb5 t i j)).trans ?_
  entry_read
  pointwise

theorem read6 (i : Fin 128) (j : Fin 2048) :
    iblk m c 6 t (ix2 i j) = m ((c : Thread nD τ).loc main_arg6) (ix1 i) := by
  refine (congrArg (V m c main_v5) (emb6 t i j)).trans ?_
  entry_read
  pointwise

theorem read7 (i : Fin 384) (j : Fin 256) :
    iblk m c 7 t (ix2 i j) = m ((c : Thread nD τ).loc main_arg7) (ix2 i j) := by
  refine (congrArg (V m c main_arg7) (emb7 t i j)).trans ?_
  entry_read
  rfl

theorem read8 (i : Fin 384) (j : Fin 128) :
    iblk m c 8 t (ix2 i j) = m ((c : Thread nD τ).loc main_arg8) (ix2 i j) := by
  refine (congrArg (V m c main_arg8) (emb8 t i j)).trans ?_
  entry_read
  rfl

theorem read9 (i : Fin 128) (j : Fin 3) :
    iblk m c 9 t (ix2 i j) = m ((c : Thread nD τ).loc main_arg9) (ix2 j i) := by
  refine (congrArg (V m c main_v6) (emb9 t i j)).trans ?_
  entry_read
  pointwise

theorem read10 (i : Fin 128) (j : Fin 2048) :
    iblk m c 10 t (ix2 i j) = m ((c : Thread nD τ).loc main_arg9) (ix2 0 i) := by
  refine (congrArg (V m c main_v10) (emb10 t i j)).trans ?_
  entry_read
  pointwise

theorem read11 (i : Fin 128) (j : Fin 2048) :
    iblk m c 11 t (ix2 i j) = m ((c : Thread nD τ).loc main_arg9) (ix2 1 i) := by
  refine (congrArg (V m c main_v14) (emb11 t i j)).trans ?_
  entry_read
  pointwise

theorem read12 (i : Fin 128) (j : Fin 2048) :
    iblk m c 12 t (ix2 i j) = m ((c : Thread nD τ).loc main_arg9) (ix2 2 i) := by
  refine (congrArg (V m c main_v18) (emb12 t i j)).trans ?_
  entry_read
  pointwise

theorem read13 (i : Fin 128) (j : Fin 100) :
    iblk m c 13 t (ix2 i j) = m ((c : Thread nD τ).loc main_arg10) (ix2 i j) := by
  refine (congrArg (V m c main_arg10) (emb13 t i j)).trans ?_
  entry_read
  rfl

theorem read14 (i : Fin 128) (j : Fin 2048) :
    iblk m c 14 t (ix2 i j) = m ((c : Thread nD τ).loc main_arg11) (ix1 i) := by
  refine (congrArg (V m c main_v20) (emb14 t i j)).trans ?_
  entry_read
  pointwise

/-! ## The blocks of a point -/

/-- The arguments that the launch finds. -/
def args : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)

/-- The blocks that point `t` reads. -/
def blocks : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t

variable {m c t} {a : In} {n : Fin 131072} {i : Fin 2048}

set_option maxHeartbeats 2000000 in
/-- Column `i` of point `t`'s blocks holds the inputs of row `2048 t + i`. -/
theorem holds (H : Reads (args m c) n a) (hn : n.1 = t.1 * 2048 + i.1) : Holds (blocks t m c) i a := by
  constructor
  · intro j
    exact (read0 t m c i j n hn).trans (H.mi j)
  · intro j
    exact (read1 t m c i j n hn).trans (H.mem j)
  · exact (read2 t m c i n hn).trans H.ts
  · exact (read3 t m c i n hn).trans H.mts
  · intro k
    exact (read4 t m c i k n hn).trans (H.h k)
  · intro j
    exact (read5 t m c j i).trans (H.tw j)
  · intro j
    exact (read6 t m c j i).trans (H.tb j)
  · intro p k
    exact (read7 t m c p k).trans (H.wih p k)
  · intro p k
    exact (read8 t m c p k).trans (H.whh p k)
  · intro j p
    exact (read9 t m c j p).trans (H.bias p j)
  · intro j
    exact (read10 t m c j i).trans (H.bias 0 j)
  · intro j
    exact (read11 t m c j i).trans (H.bias 1 j)
  · intro j
    exact (read12 t m c j i).trans (H.bias 2 j)
  · intro j k
    exact (read13 t m c j k).trans (H.nw j k)
  · intro j
    exact (read14 t m c j i).trans (H.nb j)

set_option maxHeartbeats 1000000 in
/-- The result array after the run, at a row whose guards are idle. -/
theorem final_row (H : Reads (args m c) n a) (I : a.Idle) (j : Fin 128) :
    (dats m 0 c).arrAt 15 cfg0.N (ix2 n j) = ((a.out j : ℝ) : EReal) := by
  have hN : cfg0.N = 64 := N_0
  obtain ⟨t, ht⟩ : ∃ t : Fin cfg0.N, t.1 = n.1 / 2048 := ⟨⟨n.1 / 2048, by omega⟩, rfl⟩
  obtain ⟨i, hi⟩ : ∃ i : Fin 2048, i.1 = n.1 % 2048 := ⟨⟨n.1 % 2048, by omega⟩, rfl⟩
  have hn : n.1 = t.1 * 2048 + i.1 := by omega
  have h := congrFun (Value.blocks15 m c t (flush0_15 t)) (ix2 i j)
  rw [Value.flushed15] at h
  blk_simp at h
  have hb := emb15 t i j n hn
  blk_simp at hb
  rw [hb] at h
  have ho := congrFun (Blocks.out_eq (blocks t m c)) (ix2 i j)
  have e := out_row (holds H hn) I j
  generalize (blocks t m c).out = v at ho e
  exact h.trans (ho.trans e)

end Cert.Gru.Win

end
-- ==== Proof.Ref.lean ====
/-
  The reference's result at a row of real inputs: its program's shared values are the vectors of Vals.lean, so the
  row is the real cell's.
-/
module

public import proofs.«01_k».proof.Proof.Gen.ReferenceIdeal.Run
public import proofs.«01_k».proof.Proof.Vals
public import Idealize.ShloMosaic.Lib.Tactic.CleanTypes

@[expose] public section

set_option maxRecDepth 16384

noncomputable section

namespace Cert.Gru.Ref

open Cert.ReferenceIdeal Cert.ReferenceIdeal.Value Cert.On_guards_idle Idealize.ShloMosaic Idealize.ShloMosaic.TcCoe
  Idealize.ShloMosaic.StableHlo

attribute [local instance] onFacts

variable (V : Valuation τ sig (Elt Ideal))

/-- The arguments as the reference's program holds them. -/
def args : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)

theorem u_eq : res_main_v9 V = (args V).vU := by rfl

theorem x_eq : res_main_v39 V = (args V).vX := by
  unfold res_main_v39 res_main_v27 res_main_v24 res_main_v29 res_main_v13 res_main_v10
  rw [u_eq]; rfl

theorem hz_eq : res_main_v86 V = fn_mobius_matvec (F := Ideal) (args V).vWh2 ((args V).a1) := by
  unfold res_main_v86 res_main_v65 res_main_v60 res_main_v57 res_main_v55 res_main_v52
  rfl

theorem iz_eq : res_main_v121 V = fn_mobius_matvec_1 (F := Ideal) (args V).vWi2 (res_main_v39 V) := by
  unfold res_main_v121 res_main_v100 res_main_v95 res_main_v92 res_main_v90 res_main_v87
  rfl

theorem addz_eq : res_main_v158 V = fn_mobius_add (F := Ideal) (res_main_v86 V) (res_main_v121 V) := by
  unfold res_main_v158 res_main_v130 res_main_v127 res_main_v124
  rfl

theorem gatez_eq : res_main_v203 V = vGate (args V).vWh2 (args V).vWi2 (args V).vB2 ((args V).a1) (args V).vX := by
  unfold vGate
  rw [← x_eq, ← iz_eq, ← hz_eq, ← addz_eq]
  unfold res_main_v203 res_main_v169 res_main_v164 res_main_v161 res_main_v51
  rfl

theorem hr_eq : res_main_v265 V = fn_mobius_matvec (F := Ideal) (args V).vWh0 ((args V).a1) := by
  unfold res_main_v265 res_main_v244 res_main_v239 res_main_v236 res_main_v234 res_main_v231
  rfl

theorem ir_eq : res_main_v300 V = fn_mobius_matvec_1 (F := Ideal) (args V).vWi0 (res_main_v39 V) := by
  unfold res_main_v300 res_main_v279 res_main_v274 res_main_v271 res_main_v269 res_main_v266
  rfl

theorem addr_eq : res_main_v337 V = fn_mobius_add (F := Ideal) (res_main_v265 V) (res_main_v300 V) := by
  unfold res_main_v337 res_main_v309 res_main_v306 res_main_v303
  rfl

theorem gater_eq : res_main_v382 V = vGate (args V).vWh0 (args V).vWi0 (args V).vB0 ((args V).a1) (args V).vX := by
  unfold vGate
  rw [← x_eq, ← ir_eq, ← hr_eq, ← addr_eq]
  unfold res_main_v382 res_main_v348 res_main_v343 res_main_v340 res_main_v47
  rfl

theorem rm_eq : res_main_v414 V = mulf (args V).vR (args V).a1 := by
  unfold Args.vR vSig
  rw [← gater_eq]
  unfold res_main_v414 res_main_v390 res_main_v386 res_main_v383
  rfl

theorem rh_eq : res_main_v443 V = (args V).vRh := by
  unfold Args.vRh
  unfold res_main_v443 res_main_v422 res_main_v417 res_main_v413 res_main_v410
  rw [rm_eq]
  generalize (args V).vR = r
  rfl

theorem hc_eq : res_main_v478 V = fn_mobius_matvec_4 (F := Ideal) (args V).vWh1 (res_main_v443 V) := by
  unfold res_main_v478 res_main_v457 res_main_v452 res_main_v449 res_main_v447 res_main_v444
  rfl

theorem ic_eq : res_main_v513 V = fn_mobius_matvec_1 (F := Ideal) (args V).vWi1 (res_main_v39 V) := by
  unfold res_main_v513 res_main_v492 res_main_v487 res_main_v484 res_main_v482 res_main_v479
  rfl

theorem addc_eq : res_main_v550 V = fn_mobius_add (F := Ideal) (res_main_v478 V) (res_main_v513 V) := by
  unfold res_main_v550 res_main_v522 res_main_v519 res_main_v516
  rfl

theorem gatec_eq : res_main_v595 V = vGate (args V).vWh1 (args V).vWi1 (args V).vB1 (res_main_v443 V) (args V).vX := by
  unfold vGate
  rw [← x_eq, ← ic_eq, ← matvec_row', ← hc_eq, ← addc_eq]
  unfold res_main_v595 res_main_v561 res_main_v556 res_main_v553 res_main_v49
  rfl

theorem delta_eq : res_main_v633 V = (args V).vDelta := by
  unfold Args.vDelta Args.vCand
  rw [← rh_eq, ← gatec_eq]
  unfold res_main_v633 res_main_v605 res_main_v602 res_main_v599 res_main_v596
  rfl

theorem zd_eq : res_main_v638 V = mulf (args V).vZ (args V).vDelta := by
  unfold Args.vZ vSig
  rw [← gatez_eq, ← delta_eq]
  unfold res_main_v638 res_main_v211 res_main_v207 res_main_v204
  rfl

theorem upd_eq : res_main_v704 V = (args V).vUpd := by
  unfold Args.vUpd
  unfold res_main_v704 res_main_v676 res_main_v673 res_main_v670 res_main_v667 res_main_v646 res_main_v641 res_main_v637
    res_main_v634
  rw [zd_eq, delta_eq]
  generalize (args V).vZ = z
  generalize (args V).vDelta = d
  rfl

variable {V} {n : Fin 131072} {a : In}

theorem hm_row (H : Reads (args V) n a) : Row (res_main_v709 V) n a.hm := by
  intro j
  unfold res_main_v709
  clean_types
  have h1 : ∀ k, V (Proc.devRef .tc main_arg4) (ix2 n k) = _ := H.h
  have h2 : ∀ i k, V (Proc.devRef .tc main_arg10) (ix2 i k) = _ := H.nw
  have h3 : ∀ k, V (Proc.devRef .tc main_arg11) (ix1 k) = _ := H.nb
  pointwise
  simp only [h1 _, h2 _ _, h3 _, ← EReal.coe_mul, sum_coe, ← EReal.coe_add]
  rfl

theorem res_row (H : Reads (args V) n a) : Row (fn_mobius_add (F := Ideal) (res_main_v704 V) (res_main_v709 V)) n a.out := by
  refine add_row ?_ (hm_row H)
  rw [upd_eq]
  exact H.vUpd

/-- The reference runs, leaves its arguments as they were, and its result is the sum in the ball of the updated memory
    and the feature map. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v746)
        = fn_mobius_add (F := Ideal) (res_main_v704 (launchContents m c)) (res_main_v709 (launchContents m c)) :=
  (θ_run defs _ _).mono (fun _ h c => (h c).1.trans (by
    unfold res_main_v718 res_main_v715 res_main_v712
    rfl)) (run m ρ)

end Cert.Gru.Ref

end
-- ==== Proof.Mask.lean ====
/-
  The mask: where it selects an entry, the nine norms of that entry's row are at least the guard.
-/
module

public import proofs.«01_k».proof.Proof.Vals

@[expose] public section

set_option maxRecDepth 16384

noncomputable section

namespace Cert.Gru

open Idealize.ShloMosaic Cert.On_guards_idle Facts

attribute [local instance] onFacts

/-- The column of bits saying that a row's norm is at least the guard. -/
def vOk (v : FVec Ideal S131072x128 .f32) : IVec S131072x1 1 :=
  cmpf .oge (fn_norm (F := Ideal) v) (broadcastInDim S131072x1 ![] bcast_S_S131072x1 (constant S_ .f32 0x26901D7D#32))

/-- The plain product of the input with a weight's part. -/
def vMx (x : FVec Ideal S131072x256 .f32) (w : FVec Ideal S128x256 .f32) : FVec Ideal S131072x128 .f32 :=
  Host.dotGeneral dot_S131072x256_S256x128_S131072x128_1_0_0_1_n_n none x
    (transpose S256x128 [1, 0] w transposes_S128x256_S256x128_1_0)

/-- The plain product of a state with a weight's part. -/
def vMh (x : FVec Ideal S131072x128 .f32) (w : FVec Ideal S128x128 .f32) : FVec Ideal S131072x128 .f32 :=
  Host.dotGeneral dot_S131072x128_S128x128_S131072x128_1_0_0_1_n_n none x
    (transpose S128x128 [1, 0] w transposes_S128x128_S128x128_1_0)

theorem mask_eq (A : Args) :
    fn (F := Ideal) A.a0 A.a1 A.a2 A.a3 A.a4 A.a5 A.a6 A.a7 A.a8 A.a9 A.a10 A.a11
      = broadcastInDim S131072x128 ![0, 1] bcast_S131072x1_S131072x128_0_1
          (andi (andi (andi (andi (andi (andi (andi (andi (andi
            (broadcastInDim S131072x1 ![] bcast_S_S131072x1 (constantI S_ 1 1#1))
            (vOk A.vU)) (vOk (vMx A.vX A.vWi0))) (vOk (vMx A.vX A.vWi1))) (vOk (vMx A.vX A.vWi2)))
            (vOk (vMh A.a1 A.vWh0))) (vOk (vMh A.a1 A.vWh2))) (vOk (mulf A.vR A.a1))) (vOk (vMh A.vRh A.vWh1)))
            (vOk (mulf A.vZ A.vDelta))) := by
  rfl

variable {A : Args} {n : Fin 131072} {a : In}

theorem mx_row {x : FVec Ideal S131072x256 .f32} {w : FVec Ideal S128x256 .f32} {f : Fin 256 → ℝ}
    {W : Fin 128 → Fin 256 → ℝ} (hx : Row x n f) (hw : ∀ i, Row w i (W i)) : Row (vMx x w) n (mul W f) := by
  intro j
  pointwise [vMx]
  simp only [hx _, hw _ _, ← EReal.coe_mul, sum_coe]
  rfl

theorem mh_row {x : FVec Ideal S131072x128 .f32} {w : FVec Ideal S128x128 .f32} {f : Fin 128 → ℝ}
    {W : Fin 128 → Fin 128 → ℝ} (hx : Row x n f) (hw : ∀ i, Row w i (W i)) : Row (vMh x w) n (mul W f) := by
  intro j
  pointwise [vMh]
  simp only [hx _, hw _ _, ← EReal.coe_mul, sum_coe]
  rfl

theorem mulf_row {x y : FVec Ideal S131072x128 .f32} {f g : Fin 128 → ℝ} (hx : Row x n f) (hy : Row y n g) :
    Row (mulf x y) n (fun k => f k * g k) := by
  intro j
  pointwise
  rw [hx j, hy j, ← EReal.coe_mul]

theorem ok_iff {v : FVec Ideal S131072x128 .f32} {f : Fin 128 → ℝ} (h : Row v n f) (hv : vOk v (ix2 n 0) = 1#1) :
    q ≤ √(dot f f) := by
  have hn : fn_norm (F := Ideal) v (ix2 n 0) = _ := norm_raw h
  unfold vOk at hv
  generalize fn_norm (F := Ideal) v = w at hn hv
  revert hv
  pointwise
  rw [hn, bits_q, ofBool_one, decide_eq_true_iff, EReal.coe_le_coe_iff]
  exact id

theorem and_bits {x y : BitVec 1} (h : IntOp.andi x y = 1#1) : x = 1#1 ∧ y = 1#1 := by revert x y; decide

theorem idle_of_mask (H : Reads A n a) (j : Fin 128)
    (h : fn (F := Ideal) A.a0 A.a1 A.a2 A.a3 A.a4 A.a5 A.a6 A.a7 A.a8 A.a9 A.a10 A.a11 (ix2 n j) = 1#1) : a.Idle := by
  rw [mask_eq] at h
  have hu := ok_iff (n := n) H.vU
  have h0 := ok_iff (mx_row H.vX H.vWi0)
  have h1 := ok_iff (mx_row H.vX H.vWi1)
  have h2 := ok_iff (mx_row H.vX H.vWi2)
  have hr := ok_iff (mh_row H.mem H.vWh0)
  have hz := ok_iff (mh_row H.mem H.vWh2)
  have hm := ok_iff (mulf_row H.vR H.mem)
  have hc := ok_iff (mh_row H.vRh H.vWh1)
  have hd := ok_iff (mulf_row H.vZ H.vDelta)
  revert h hu h0 h1 h2 hr hz hm hc hd
  generalize vOk A.vU = b0
  generalize vOk (vMx A.vX A.vWi0) = b1
  generalize vOk (vMx A.vX A.vWi1) = b2
  generalize vOk (vMx A.vX A.vWi2) = b3
  generalize vOk (vMh A.a1 A.vWh0) = b4
  generalize vOk (vMh A.a1 A.vWh2) = b5
  generalize vOk (mulf A.vR A.a1) = b6
  generalize vOk (vMh A.vRh A.vWh1) = b7
  generalize vOk (mulf A.vZ A.vDelta) = b8
  pointwise
  intro h hu h0 h1 h2 hr hz hm hc hd
  obtain ⟨h, e8⟩ := and_bits h
  obtain ⟨h, e7⟩ := and_bits h
  obtain ⟨h, e6⟩ := and_bits h
  obtain ⟨h, e5⟩ := and_bits h
  obtain ⟨h, e4⟩ := and_bits h
  obtain ⟨h, e3⟩ := and_bits h
  obtain ⟨h, e2⟩ := and_bits h
  obtain ⟨h, e1⟩ := and_bits h
  obtain ⟨-, e0⟩ := and_bits h
  exact ⟨hu e0, fun p => by fin_cases p; exacts [h0 e1, h1 e2, h2 e3], hr e4, hz e5, hm e6, hc e7, hd e8⟩

end Cert.Gru

end
-- ==== Proof.Pre.lean ====
/-
  The precondition: all its inputs' entries are real numbers.
-/
module

public import proofs.«01_k».proof.Pre_inputs_finite
public import proofs.«01_k».proof.Proof.Vals
public import Idealize.ShloMosaic.Lib.ReduceAll

@[expose] public section

set_option maxRecDepth 16384

noncomputable section

namespace Cert.Gru

open Idealize.ShloMosaic Cert.Pre_inputs_finite

/-- The side conditions of the precondition's operations. -/
theorem preFacts : Cert.Pre_inputs_finite.Facts := by constructor <;> decide

attribute [local instance] preFacts

theorem bits_inf : Ideal.ofBits .f32 0x7F800000#32 = ⊤ := by simp [Ideal.ofBits, Ideal.ieee]

theorem real_of_abs {x : EReal} (h : max x (-x) < ⊤) : ∃ r : ℝ, x = ((r : ℝ) : EReal) := by
  induction x with
  | bot => simp at h
  | top => simp at h
  | coe r => exact ⟨r, rfl⟩

/-- The bit saying that all the entries of `x` are less than infinity in magnitude. -/
def vFin {s : Shape} {axes : List (Fin s.rank)} (x : FVec Ideal s .f32) (hb : S_.BroadcastsInDim s (![] : Fin 0 → Fin s.rank))
    (h : s.ReducesTo axes S_) (hu : 0 < S_.numel) : IVec S_ 1 :=
  Host.reduce IntOp.andi (cmpf .olt (Host.absf x) (broadcastInDim s ![] hb (constant S_ .f32 0x7F800000#32)))
    (constantI S_ 1 1#1) h hu

instance : Subsingleton S_.Idx := ⟨fun a b => funext fun k => k.elim0⟩

theorem real_of_fin {s : Shape} {axes : List (Fin s.rank)} {x : FVec Ideal s .f32} {hb : S_.BroadcastsInDim s (![] : Fin 0 → Fin s.rank)}
    {h : s.ReducesTo axes S_} {hu : 0 < S_.numel} {i : S_.Idx} (e : vFin x hb h hu i = 1#1) :
    ∃ f : s.Idx → ℝ, ∀ k, x k = ((f k : ℝ) : EReal) := by
  refine Classical.skolem (p := fun k r => x k = ((r : ℝ) : EReal)).mp fun k => ?_
  have hk := Host.reduce_andi_all _ _ h hu i e k
  refine real_of_abs ?_
  change BitVec.ofBool (decide (max (x k) (-(x k)) < Ideal.ofBits .f32 0x7F800000#32)) = 1#1 at hk
  rwa [ofBool_one, decide_eq_true_iff, bits_inf] at hk

open Facts in
theorem pre_eq (A : Args) :
    Cert.Pre_inputs_finite.fn (F := Ideal) A.a0 A.a1 A.a2 A.a3 A.a4 A.a5 A.a6 A.a7 A.a8 A.a9 A.a10 A.a11
      = andi (andi (andi (andi (andi (andi (andi (andi (andi (andi (andi
          (vFin A.a0 bcast_S_S131072x128 reducesTo_S131072x128_S_d0_1 h_S_)
          (vFin A.a1 bcast_S_S131072x128 reducesTo_S131072x128_S_d0_1 h_S_))
          (vFin A.a2 bcast_S_S131072 reducesTo_S131072_S_d0 h_S_))
          (vFin A.a3 bcast_S_S131072 reducesTo_S131072_S_d0 h_S_))
          (vFin A.a4 bcast_S_S131072x100 reducesTo_S131072x100_S_d0_1 h_S_))
          (vFin A.a5 bcast_S_S128 reducesTo_S128_S_d0 h_S_))
          (vFin A.a6 bcast_S_S128 reducesTo_S128_S_d0 h_S_))
          (vFin A.a7 bcast_S_S384x256 reducesTo_S384x256_S_d0_1 h_S_))
          (vFin A.a8 bcast_S_S384x128 reducesTo_S384x128_S_d0_1 h_S_))
          (vFin A.a9 bcast_S_S3x128 reducesTo_S3x128_S_d0_1 h_S_))
          (vFin A.a10 bcast_S_S128x100 reducesTo_S128x100_S_d0_1 h_S_))
          (vFin A.a11 bcast_S_S128 reducesTo_S128_S_d0 h_S_) := by
  rfl

theorem and_bit {x y : BitVec 1} (h : IntOp.andi x y = 1#1) : x = 1#1 ∧ y = 1#1 := by revert x y; decide

theorem and_at {x y : IVec S_ 1} {i : S_.Idx} (h : andi x y i = 1#1) : x i = 1#1 ∧ y i = 1#1 := and_bit h

/-- Where the precondition holds, every row has real inputs. -/
theorem reads_of_pre (A : Args)
    (h : Cert.Pre_inputs_finite.fn (F := Ideal) A.a0 A.a1 A.a2 A.a3 A.a4 A.a5 A.a6 A.a7 A.a8 A.a9 A.a10 A.a11 = fun _ => 1#1) :
    ∃ a : Fin 131072 → In, ∀ n, Reads A n (a n) := by
  have e := congrFun h (fun k : Fin 0 => k.elim0)
  rw [pre_eq] at e
  obtain ⟨e, e11⟩ := and_at e
  obtain ⟨e, e10⟩ := and_at e
  obtain ⟨e, e9⟩ := and_at e
  obtain ⟨e, e8⟩ := and_at e
  obtain ⟨e, e7⟩ := and_at e
  obtain ⟨e, e6⟩ := and_at e
  obtain ⟨e, e5⟩ := and_at e
  obtain ⟨e, e4⟩ := and_at e
  obtain ⟨e, e3⟩ := and_at e
  obtain ⟨e, e2⟩ := and_at e
  obtain ⟨e0, e1⟩ := and_at e
  obtain ⟨f0, h0⟩ := real_of_fin e0
  obtain ⟨f1, h1⟩ := real_of_fin e1
  obtain ⟨f2, h2⟩ := real_of_fin e2
  obtain ⟨f3, h3⟩ := real_of_fin e3
  obtain ⟨f4, h4⟩ := real_of_fin e4
  obtain ⟨f5, h5⟩ := real_of_fin e5
  obtain ⟨f6, h6⟩ := real_of_fin e6
  obtain ⟨f7, h7⟩ := real_of_fin e7
  obtain ⟨f8, h8⟩ := real_of_fin e8
  obtain ⟨f9, h9⟩ := real_of_fin e9
  obtain ⟨f10, h10⟩ := real_of_fin e10
  obtain ⟨f11, h11⟩ := real_of_fin e11
  exact ⟨fun n =>
    { mi := fun j => f0 (ix2 n j), mem := fun j => f1 (ix2 n j), ts := f2 (ix1 n), mts := f3 (ix1 n)
      h := fun j => f4 (ix2 n j), tw := fun j => f5 (ix1 j), tb := fun j => f6 (ix1 j)
      wih := fun i j => f7 (ix2 i j), whh := fun i j => f8 (ix2 i j), bias := fun i j => f9 (ix2 i j)
      nw := fun i j => f10 (ix2 i j), nb := fun j => f11 (ix1 j) },
    fun n => ⟨fun _ => h0 _, fun _ => h1 _, h2 _, h3 _, fun _ => h4 _, fun _ => h5 _, fun _ => h6 _, fun _ _ => h7 _,
      fun _ _ => h8 _, fun _ _ => h9 _, fun _ _ => h10 _, fun _ => h11 _⟩⟩

end Cert.Gru

end
-- ==== Proof.Claims.lean ====
/-
  The claims: the frames from the generated runs, the literals that were named, and the value of every row whose guards
  are idle, where the kernel and the reference are both the real cell of Cell.lean.
-/
module

public import proofs.«01_k».proof.Defs
public import proofs.«01_k».proof.Proof.Gen.Kernel.Frame
public import proofs.«01_k».proof.Proof.Gen.KernelFastCos.Frame
public import proofs.«01_k».proof.Proof.Gen.KernelFastCosIdeal.Frame
public import proofs.«01_k».proof.Proof.Window
public import proofs.«01_k».proof.Proof.Ref
public import proofs.«01_k».proof.Proof.Mask
public import proofs.«01_k».proof.Proof.Pre
public import Idealize.ShloMosaic.Lib.Quiescent

@[expose] public section

set_option maxRecDepth 16384

noncomputable section

namespace Cert.Gru.Claims

open Idealize.ShloMosaic Idealize.ShloMosaic.TcCoe Idealize.SL.Sem

attribute [local instance] Cert.Gru.onFacts Cert.Gru.preFacts

/-! ## The frames -/

theorem frame_k : Cert.quiescent_Kernel := fun m ρ _ => Cert.Kernel.Gen.frame m ρ
theorem frame_ki : Cert.quiescent_KernelIdeal := fun m ρ _ => Cert.KernelIdeal.Gen.frame m ρ
theorem frame_kip : Cert.quiescent_KernelIdeal_pre_inputs_finite := fun m ρ _ => Cert.KernelIdeal.Gen.frame m ρ

theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_rip : Cert.quiescent_ReferenceIdeal_pre_inputs_finite := fun m ρ _ =>
  frame_ri m ρ trivial

/-! The kernel with the version's own cosine. -/

theorem frame_kf : Cert.quiescent_KernelFastCos := fun m ρ _ => Cert.KernelFastCos.Gen.frame m ρ
theorem frame_kfi : Cert.quiescent_KernelFastCosIdeal := fun m ρ _ => Cert.KernelFastCosIdeal.Gen.frame m ρ

/-! ## The named literals -/

theorem preserves : Cert.preserves_Kernel_KernelIdeal :=
  ⟨IdealRules.named_const.statement _ _ _ _ _ rfl, IdealRules.named_const.statement _ _ _ _ _ rfl,
    IdealRules.named_const.statement _ _ _ _ _ rfl⟩

theorem preserves_f : Cert.preserves_KernelFastCos_KernelFastCosIdeal :=
  ⟨IdealRules.named_const.statement _ _ _ _ _ rfl, IdealRules.named_const.statement _ _ _ _ _ rfl,
    IdealRules.named_const.statement _ _ _ _ _ rfl⟩

/-! ## The values -/

theorem algebraic : Cert.algebraic_KernelIdeal_ReferenceIdeal_on_guards_idle_pre_inputs_finite := by
  intro m ρ m' ρ' hpre hagree
  have key (c : Dev Cert.KernelIdeal.nD) : ∃ a : Fin 131072 → In, ∀ n, Reads (Win.args m c) n (a n) :=
    reads_of_pre (Win.args m c) (hpre c)
  have hargs (c : Dev Cert.KernelIdeal.nD) : Ref.args (StableHlo.launchContents m' c) = Win.args m c := by
    obtain ⟨h0, h1, h2, h3, h4, h5, h6, h7, h8, h9, h10, h11⟩ := hagree c
    simp only [Ref.args, Win.args, Args.mk.injEq]
    exact ⟨h0, h1, h2, h3, h4, h5, h6, h7, h8, h9, h10, h11⟩
  refine ⟨fun c => (Cert.KernelIdeal.Gen.dats m 0 c).arrAt 15 Cert.KernelIdeal.cfg0.N, ?_, ?_⟩
  · exact (θ_run Cert.KernelIdeal.defs _ _).mono (fun _ h c => ⟨fun i _ => congrFun (h c).1 i, (h c).2⟩)
      (Cert.KernelIdeal.Value.run_blocks (F := Ideal) m ρ)
  · refine (θ_run Cert.ReferenceIdeal.defs _ _).mono (fun r h c => ⟨fun i hi => ?_, (h.2 c).2⟩)
      (θ_run_and (Ref.run_res m' ρ') (Cert.ReferenceIdeal.Value.run (F := Ideal) m' ρ'))
    obtain ⟨a, ha⟩ := key c
    rw [eq_ix2 i] at hi ⊢
    have hr : Row (Cert.On_guards_idle.fn_mobius_add (F := Ideal) (Cert.ReferenceIdeal.Value.res_main_v704 (StableHlo.launchContents m' c))
        (Cert.ReferenceIdeal.Value.res_main_v709 (StableHlo.launchContents m' c))) (i 0) (a (i 0)).out :=
      Ref.res_row ((hargs c).symm ▸ ha (i 0))
    refine (congrFun (h.1 c) _).trans ((hr (i 1)).trans ?_)
    exact (Win.final_row (ha (i 0)) (idle_of_mask (ha (i 0)) (i 1) hi) (i 1)).symm

end Cert.Gru.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelFastCos
public import proofs.«01_k».proof.Proof.Gen.KernelFastCos.Skeleton
public import proofs.«01_k».proof.Proof.Gen.KernelFastCos.Launch
public import proofs.«01_k».proof.Proof.Gen.KernelFastCos.Points
public import proofs.«01_k».proof.Proof.Gen.KernelFastCos.Frame
public import proofs.«01_k».proof.Proof.Gen.KernelFastCosIdeal
public import proofs.«01_k».proof.Proof.Gen.KernelFastCosIdeal.Skeleton
public import proofs.«01_k».proof.Proof.Gen.KernelFastCosIdeal.Launch
public import proofs.«01_k».proof.Proof.Gen.KernelFastCosIdeal.Points
public import proofs.«01_k».proof.Proof.Gen.KernelFastCosIdeal.Frame
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFastCos.Gen.facts, Cert.KernelFastCosIdeal.Gen.facts,
  Cert.Gru.preFacts, Cert.Gru.onFacts, Cert.Gru.Claims.frame_k, Cert.Gru.Claims.frame_ki, Cert.Gru.Claims.frame_kip,
  Cert.Gru.Claims.frame_ri, Cert.Gru.Claims.frame_rip, Cert.Gru.Claims.frame_kf, Cert.Gru.Claims.frame_kfi, Cert.Gru.Claims.preserves,
  Cert.Gru.Claims.algebraic, Cert.Gru.Claims.preserves_f⟩

end Cert.Proof

end
